-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x16x2048x128 : Shape := ⟨4, ![2, 16, 2048, 128]⟩
abbrev S2x16x2048 : Shape := ⟨3, ![2, 16, 2048]⟩
abbrev S2x16x128x128 : Shape := ⟨4, ![2, 16, 128, 128]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel
  bcast_S_S2x16x2048 : S_.BroadcastsInDim S2x16x2048 (![] : Fin 0 → Fin S2x16x2048.rank)
  reducesTo_S2x16x2048_S_d0_1_2 : S2x16x2048.ReducesTo [0, 1, 2] S_
  bcast_S_S2x16x128x128 : S_.BroadcastsInDim S2x16x128x128 (![] : Fin 0 → Fin S2x16x128x128.rank)
  reducesTo_S2x16x128x128_S_d0_1_2_3 : S2x16x128x128.ReducesTo [0, 1, 2, 3] S_

variable [Facts]

def fn_part1 {F : FTy → Type} [FloatOps F] (main_arg4 : FVec F S2x16x2048 .f32) (main_arg5 : FVec F S2x16x128x128 .f32) (main_v13 : IVec S_ 1) (main_v16 : IVec S2x16x2048 1) : IVec S_ 1 :=
  let main_c_5 : IVec S_ 1 := constantI S_ 1 1#1
  let main_v17 : IVec S_ 1 := (fun x v => Host.reduce IntOp.andi x v reducesTo_S2x16x2048_S_d0_1_2 h_S_) main_v16 main_c_5
  let main_v18 : IVec S_ 1 := andi main_v13 main_v17
  let main_v19 : FVec F S2x16x2048 .f32 := Host.absf main_arg4
  let main_cst_6 : FVec F S_ .f32 := constant S_ .f32 0x7F800000#32
  let main_v20 : FVec F S2x16x2048 .f32 := broadcastInDim S2x16x2048 ![] bcast_S_S2x16x2048 main_cst_6
  let main_v21 : IVec S2x16x2048 1 := cmpf .olt main_v19 main_v20
  let main_c_7 : IVec S_ 1 := constantI S_ 1 1#1
  let main_v22 : IVec S_ 1 := (fun x v => Host.reduce IntOp.andi x v reducesTo_S2x16x2048_S_d0_1_2 h_S_) main_v21 main_c_7
  let main_v23 : IVec S_ 1 := andi main_v18 main_v22
  let main_v24 : FVec F S2x16x128x128 .f32 := Host.absf main_arg5
  let main_cst_8 : FVec F S_ .f32 := constant S_ .f32 0x7F800000#32
  let main_v25 : FVec F S2x16x128x128 .f32 := broadcastInDim S2x16x128x128 ![] bcast_S_S2x16x128x128 main_cst_8
  let main_v26 : IVec S2x16x128x128 1 := cmpf .olt main_v24 main_v25
  let main_c_9 : IVec S_ 1 := constantI S_ 1 1#1
  let main_v27 : IVec S_ 1 := (fun x v => Host.reduce IntOp.andi x v reducesTo_S2x16x128x128_S_d0_1_2_3 h_S_) main_v26 main_c_9
  let main_v28 : IVec S_ 1 := andi main_v23 main_v27
  main_v28

def fn {F : FTy → Type} [FloatOps F] (main_arg0 : FVec F S2x16x2048x128 .f32) (main_arg1 : FVec F S2x16x2048x128 .f32) (main_arg2 : FVec F S2x16x2048x128 .f32) (main_arg3 : FVec F S2x16x2048 .f32) (main_arg4 : FVec F S2x16x2048 .f32) (main_arg5 : FVec F S2x16x128x128 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S2x16x2048x128 .f32 := Host.absf main_arg2
  let main_cst_2 : FVec F S_ .f32 := constant S_ .f32 0x7F800000#32
  let main_v10 : FVec F S2x16x2048x128 .f32 := broadcastInDim S2x16x2048x128 ![] bcast_S_S2x16x2048x128 main_cst_2
  let main_v11 : IVec S2x16x2048x128 1 := cmpf .olt main_v9 main_v10
  let main_c_3 : IVec S_ 1 := constantI S_ 1 1#1
  let main_v12 : IVec S_ 1 := (fun x v => Host.reduce IntOp.andi x v reducesTo_S2x16x2048x128_S_d0_1_2_3 h_S_) main_v11 main_c_3
  let main_v13 : IVec S_ 1 := andi main_v8 main_v12
  let main_v14 : FVec F S2x16x2048 .f32 := Host.absf main_arg3
  let main_cst_4 : FVec F S_ .f32 := constant S_ .f32 0x7F800000#32
  let main_v15 : FVec F S2x16x2048 .f32 := broadcastInDim S2x16x2048 ![] bcast_S_S2x16x2048 main_cst_4
  let main_v16 : IVec S2x16x2048 1 := cmpf .olt main_v14 main_v15
  fn_part1 (F := F) main_arg4 main_arg5 main_v13 main_v16
-- ==== Kernel.lean ====
abbrev S2x16x2048x128 : Shape := ⟨4, ![2, 16, 2048, 128]⟩
abbrev S2x16x2048 : Shape := ⟨3, ![2, 16, 2048]⟩
abbrev S2x16x128x128 : Shape := ⟨4, ![2, 16, 128, 128]⟩
abbrev S32x2048x128 : Shape := ⟨3, ![32, 2048, 128]⟩
abbrev S32x32x1x64 : Shape := ⟨4, ![32, 32, 1, 64]⟩
abbrev S32x128x128 : Shape := ⟨3, ![32, 128, 128]⟩
abbrev S1x64x128 : Shape := ⟨3, ![1, 64, 128]⟩
abbrev S1x1x1x64 : Shape := ⟨4, ![1, 1, 1, 64]⟩
abbrev S1x128x128 : Shape := ⟨3, ![1, 128, 128]⟩
abbrev S64x128 : Shape := ⟨2, ![64, 128]⟩
abbrev S1x64 : Shape := ⟨2, ![1, 64]⟩
abbrev S128x128 : Shape := ⟨2, ![128, 128]⟩
abbrev S64x64 : Shape := ⟨2, ![64, 64]⟩
abbrev S64x1 : Shape := ⟨2, ![64, 1]⟩
abbrev S1x1 : Shape := ⟨2, ![1, 1]⟩
abbrev S8388608 : Shape := ⟨1, ![8388608]⟩
abbrev S524288 : Shape := ⟨1, ![524288]⟩
abbrev S8912896 : Shape := ⟨1, ![8912896]⟩

abbrev nBuf : Space → Nat
  | .hbm => 17
  | .vmem => 16
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x16x2048, .f32⟩
  | .hbm, ⟨4, _⟩ => ⟨S2x16x2048, .f32⟩
  | .hbm, ⟨5, _⟩ => ⟨S2x16x128x128, .f32⟩
  | .hbm, ⟨6, _⟩ => ⟨S32x2048x128, .f32⟩
  | .hbm, ⟨7, _⟩ => ⟨S32x2048x128, .f32⟩
  | .hbm, ⟨8, _⟩ => ⟨S32x2048x128, .f32⟩
  | .hbm, ⟨9, _⟩ => ⟨S32x32x1x64, .f32⟩
  | .hbm, ⟨10, _⟩ => ⟨S32x32x1x64, .f32⟩
  | .hbm, ⟨11, _⟩ => ⟨S32x128x128, .f32⟩
  | .hbm, ⟨12, _⟩ => ⟨S32x2048x128, .f32⟩
  | .hbm, ⟨13, _⟩ => ⟨S32x128x128, .f32⟩
  | .hbm, ⟨14, _⟩ => ⟨S8388608, .f32⟩
  | .hbm, ⟨15, _⟩ => ⟨S524288, .f32⟩
  | .hbm, ⟨16, _⟩ => ⟨S8912896, .f32⟩
  | .local _ .vmem, ⟨0, _⟩ => ⟨S1x64x128, .f32⟩
  | .local _ .vmem, ⟨1, _⟩ => ⟨S1x64x128, .f32⟩
  | .local _ .vmem, ⟨2, _⟩ => ⟨S1x64x128, .f32⟩
  | .local _ .vmem, ⟨3, _⟩ => ⟨S1x64x128, .f32⟩
  | .local _ .vmem, ⟨4, _⟩ => ⟨S1x64x128, .f32⟩
  | .local _ .vmem, ⟨5, _⟩ => ⟨S1x64x128, .f32⟩
  | .local _ .vmem, ⟨6, _⟩ => ⟨S1x1x1x64, .f32⟩
  | .local _ .vmem, ⟨7, _⟩ => ⟨S1x1x1x64, .f32⟩
  | .local _ .vmem, ⟨8, _⟩ => ⟨S1x1x1x64, .f32⟩
  | .local _ .vmem, ⟨9, _⟩ => ⟨S1x1x1x64, .f32⟩
  | .local _ .vmem, ⟨10, _⟩ => ⟨S1x128x128, .f32⟩
  | .local _ .vmem, ⟨11, _⟩ => ⟨S1x128x128, .f32⟩
  | .local _ .vmem, ⟨12, _⟩ => ⟨S1x64x128, .f32⟩
  | .local _ .vmem, ⟨13, _⟩ => ⟨S1x64x128, .f32⟩
  | .local _ .vmem, ⟨14, _⟩ => ⟨S1x128x128, .f32⟩
  | .local _ .vmem, ⟨15, _⟩ => ⟨S1x128x128, .f32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S2x16x2048x128 : Shape := ⟨4, ![2, 16, 2048, 128]⟩
abbrev S2x16x2048 : Shape := ⟨3, ![2, 16, 2048]⟩
abbrev S2x16x128x128 : Shape := ⟨4, ![2, 16, 128, 128]⟩
abbrev S2048x2x16x128 : Shape := ⟨4, ![2048, 2, 16, 128]⟩
abbrev S2048x2x16 : Shape := ⟨3, ![2048, 2, 16]⟩
abbrev S_ : Shape := ⟨0, ![]⟩
abbrev S1x2x16x128 : Shape := ⟨4, ![1, 2, 16, 128]⟩
abbrev S2x16x128 : Shape := ⟨3, ![2, 16, 128]⟩
abbrev S1x2x16 : Shape := ⟨3, ![1, 2, 16]⟩
abbrev S2x16 : Shape := ⟨2, ![2, 16]⟩
abbrev S2x16x1x1 : Shape := ⟨4, ![2, 16, 1, 1]⟩
abbrev S2x16x1 : Shape := ⟨3, ![2, 16, 1]⟩
abbrev S2x16x128x1 : Shape := ⟨4, ![2, 16, 128, 1]⟩
abbrev S2x16x1x128 : Shape := ⟨4, ![2, 16, 1, 128]⟩
abbrev S8388608 : Shape := ⟨1, ![8388608]⟩
abbrev S524288 : Shape := ⟨1, ![524288]⟩
abbrev S8912896 : Shape := ⟨1, ![8912896]⟩

abbrev nBuf : Space → Nat
  | .hbm => 74
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x16x2048, .f32⟩
  | .hbm, ⟨4, _⟩ => ⟨S2x16x2048, .f32⟩
  | .hbm, ⟨5, _⟩ => ⟨S2x16x128x128, .f32⟩
  | .hbm, ⟨6, _⟩ => ⟨S2048x2x16x128, .f32⟩
  | .hbm, ⟨7, _⟩ => ⟨S2048x2x16x128, .f32⟩
  | .hbm, ⟨8, _⟩ => ⟨S2048x2x16x128, .f32⟩
  | .hbm, ⟨9, _⟩ => ⟨S2048x2x16, .f32⟩
  | .hbm, ⟨10, _⟩ => ⟨S2048x2x16, .f32⟩
  | .hbm, ⟨11, _⟩ => ⟨S_, .f32⟩
  | .hbm, ⟨12, _⟩ => ⟨S2048x2x16x128, .f32⟩
  | .hbm, ⟨13, _⟩ => ⟨S_, .i32⟩
  | .hbm, ⟨14, _⟩ => ⟨S2048x2x16x128, .f32⟩
  | .hbm, ⟨15, _⟩ => ⟨S2048x2x16x128, .f32⟩
  | .hbm, ⟨16, _⟩ => ⟨S2048x2x16x128, .f32⟩
  | .hbm, ⟨17, _⟩ => ⟨S2048x2x16, .f32⟩
  | .hbm, ⟨18, _⟩ => ⟨S2048x2x16, .f32⟩
  | .hbm, ⟨19, _⟩ => ⟨S_, .i32⟩
  | .hbm, ⟨20, _⟩ => ⟨S2x16x128x128, .f32⟩
  | .hbm, ⟨21, _⟩ => ⟨S2048x2x16x128, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S1x2x16x128, .f32⟩
  | .hbm, ⟨28, _⟩ => ⟨S2x16x128, .f32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1x2x16x128, .f32⟩
  | .hbm, ⟨33, _⟩ => ⟨S2x16x128, .f32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x2x16x128, .f32⟩
  | .hbm, ⟨38, _⟩ => ⟨S2x16x128, .f32⟩
  | .hbm, ⟨39, _⟩ => ⟨S_, .i32⟩
  | .hbm, ⟨40, _⟩ => ⟨S_, .i32⟩
  | .hbm, ⟨41, _⟩ => ⟨S1x2x16, .f32⟩
  | .hbm, ⟨42, _⟩ => ⟨S2x16, .f32⟩
  | .hbm, ⟨43, _⟩ => ⟨S_, .i32⟩
  | .hbm, ⟨44, _⟩ => ⟨S_, .i32⟩
  | .hbm, ⟨45, _⟩ => ⟨S1x2x16, .f32⟩
  | .hbm, ⟨46, _⟩ => ⟨S2x16, .f32⟩
  | .hbm, ⟨47, _⟩ => ⟨S2x16, .f32⟩
  | .hbm, ⟨48, _⟩ => ⟨S2x16x1x1, .f32⟩
  | .hbm, ⟨49, _⟩ => ⟨S2x16x128x128, .f32⟩
  | .hbm, ⟨50, _⟩ => ⟨S2x16x128x128, .f32⟩
  | .hbm, ⟨51, _⟩ => ⟨S2x16x128, .f32⟩
  | .hbm, ⟨52, _⟩ => ⟨S2x16x128, .f32⟩
  | .hbm, ⟨53, _⟩ => ⟨S2x16x1, .f32⟩
  | .hbm, ⟨54, _⟩ => ⟨S2x16x128, .f32⟩
  | .hbm, ⟨55, _⟩ => ⟨S2x16x128, .f32⟩
  | .hbm, ⟨56, _⟩ => ⟨S2x16x128x1, .f32⟩
  | .hbm, ⟨57, _⟩ => ⟨S2x16x1x128, .f32⟩
  | .hbm, ⟨58, _⟩ => ⟨S2x16x128x128, .f32⟩
  | .hbm, ⟨59, _⟩ => ⟨S2x16x128x128, .f32⟩
  | .hbm, ⟨60, _⟩ => ⟨S2x16x128x128, .f32⟩
  | .hbm, ⟨61, _⟩ => ⟨S2x16x128x128, .f32⟩
  | .hbm, ⟨62, _⟩ => ⟨S2x16x128, .f32⟩
  | .hbm, ⟨63, _⟩ => ⟨S1x2x16x128, .f32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S2048x2x16x128, .f32⟩
  | .hbm, ⟨68, _⟩ => ⟨S_, .i32⟩
  | .hbm, ⟨69, _⟩ => ⟨S_, .i32⟩
  | .hbm, ⟨70, _⟩ => ⟨S2x16x2048x128, .f32⟩
  | .hbm, ⟨71, _⟩ => ⟨S8388608, .f32⟩
  | .hbm, ⟨72, _⟩ => ⟨S524288, .f32⟩
  | .hbm, ⟨73, _⟩ => ⟨S8912896, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev main_while0c_c_7 : Ref sig .tc := ⟨.hbm, 22, rfl⟩
abbrev main_while0c_v11 : Ref sig .tc := ⟨.hbm, 23, rfl⟩
abbrev main_while0b_call0_c : Ref sig .tc := ⟨.hbm, 24, rfl⟩
abbrev main_while0b_call0_c_0 : Ref sig .tc := ⟨.hbm, 25, rfl⟩
abbrev main_while0b_call0_c_1 : Ref sig .tc := ⟨.hbm, 26, rfl⟩
abbrev main_while0b_call0_v0 : Ref sig .tc := ⟨.hbm, 27, rfl⟩
abbrev main_while0b_v11 : Ref sig .tc := ⟨.hbm, 28, rfl⟩
abbrev main_while0b_call1_c : Ref sig .tc := ⟨.hbm, 29, rfl⟩
abbrev main_while0b_call1_c_0 : Ref sig .tc := ⟨.hbm, 30, rfl⟩
abbrev main_while0b_call1_c_1 : Ref sig .tc := ⟨.hbm, 31, rfl⟩
abbrev main_while0b_call1_v0 : Ref sig .tc := ⟨.hbm, 32, rfl⟩
abbrev main_while0b_v12 : Ref sig .tc := ⟨.hbm, 33, rfl⟩
abbrev main_while0b_call2_c : Ref sig .tc := ⟨.hbm, 34, rfl⟩
abbrev main_while0b_call2_c_0 : Ref sig .tc := ⟨.hbm, 35, rfl⟩
abbrev main_while0b_call2_c_1 : Ref sig .tc := ⟨.hbm, 36, rfl⟩
abbrev main_while0b_call2_v0 : Ref sig .tc := ⟨.hbm, 37, rfl⟩
abbrev main_while0b_v13 : Ref sig .tc := ⟨.hbm, 38, rfl⟩
abbrev main_while0b_call3_c : Ref sig .tc := ⟨.hbm, 39, rfl⟩
abbrev main_while0b_call3_c_0 : Ref sig .tc := ⟨.hbm, 40, rfl⟩
abbrev main_while0b_call3_v0 : Ref sig .tc := ⟨.hbm, 41, rfl⟩
abbrev main_while0b_v14 : Ref sig .tc := ⟨.hbm, 42, rfl⟩
abbrev main_while0b_call4_c : Ref sig .tc := ⟨.hbm, 43, rfl⟩
abbrev main_while0b_call4_c_0 : Ref sig .tc := ⟨.hbm, 44, rfl⟩
abbrev main_while0b_call4_v0 : Ref sig .tc := ⟨.hbm, 45, rfl⟩
abbrev main_while0b_v15 : Ref sig .tc := ⟨.hbm, 46, rfl⟩
abbrev main_while0b_v16 : Ref sig .tc := ⟨.hbm, 47, rfl⟩
abbrev main_while0b_v17 : Ref sig .tc := ⟨.hbm, 48, rfl⟩
abbrev main_while0b_v18 : Ref sig .tc := ⟨.hbm, 49, rfl⟩
abbrev main_while0b_v19 : Ref sig .tc := ⟨.hbm, 50, rfl⟩
abbrev main_while0b_v20 : Ref sig .tc := ⟨.hbm, 51, rfl⟩
abbrev main_while0b_v21 : Ref sig .tc := ⟨.hbm, 52, rfl⟩
abbrev main_while0b_v22 : Ref sig .tc := ⟨.hbm, 53, rfl⟩
abbrev main_while0b_v23 : Ref sig .tc := ⟨.hbm, 54, rfl⟩
abbrev main_while0b_v24 : Ref sig .tc := ⟨.hbm, 55, rfl⟩
abbrev main_while0b_v25 : Ref sig .tc := ⟨.hbm, 56, rfl⟩
abbrev main_while0b_v26 : Ref sig .tc := ⟨.hbm, 57, rfl⟩
abbrev main_while0b_v27 : Ref sig .tc := ⟨.hbm, 58, rfl⟩
abbrev main_while0b_v28 : Ref sig .tc := ⟨.hbm, 59, rfl⟩
abbrev main_while0b_v29 : Ref sig .tc := ⟨.hbm, 60, rfl⟩
abbrev main_while0b_v30 : Ref sig .tc := ⟨.hbm, 61, rfl⟩
abbrev main_while0b_v31 : Ref sig .tc := ⟨.hbm, 62, rfl⟩
abbrev main_while0b_call5_v0 : Ref sig .tc := ⟨.hbm, 63, rfl⟩
abbrev main_while0b_call5_c : Ref sig .tc := ⟨.hbm, 64, rfl⟩
abbrev main_while0b_call5_c_0 : Ref sig .tc := ⟨.hbm, 65, rfl⟩
abbrev main_while0b_call5_c_1 : Ref sig .tc := ⟨.hbm, 66, rfl⟩
abbrev main_while0b_v32 : Ref sig .tc := ⟨.hbm, 67, rfl⟩
abbrev main_while0b_c_7 : Ref sig .tc := ⟨.hbm, 68, rfl⟩
abbrev main_while0b_v33 : Ref sig .tc := ⟨.hbm, 69, rfl⟩
abbrev main_v7 : Ref sig .tc := ⟨.hbm, 70, rfl⟩
abbrev main_v8 : Ref sig .tc := ⟨.hbm, 71, rfl⟩
abbrev main_v9 : Ref sig .tc := ⟨.hbm, 72, rfl⟩
abbrev main_v10 : Ref sig .tc := ⟨.hbm, 73, rfl⟩

abbrev nD : Nat := 1
abbrev τ : Topo := Topo.v7x

variable {F : FTy → Type} [FloatOps F]

abbrev main_while0_count : Scf.Loop 32 := ⟨0#32, 2048#32, 1#32⟩
-- ==== Proof.Recurrence.lean ====
/- The gated delta rule over the real numbers: the recurrence, one step at a time, and the closed form of a chunk of
   steps that the kernel computes. Nothing here is about either program. -/
module

public import Mathlib.Analysis.SpecialFunctions.Exp
public import Mathlib.Data.Matrix.Mul

@[expose] public section

noncomputable section

namespace Cert.Delta

open Finset

/-- What one head reads: at each time a query, a key and a value of `D` entries, the logarithm of the decay, and the
    strength of the write. -/
structure Inputs (D : ℕ) where
  q : ℕ → Fin D → ℝ
  k : ℕ → Fin D → ℝ
  v : ℕ → Fin D → ℝ
  g : ℕ → ℝ
  b : ℕ → ℝ

variable {D : ℕ}

/-- What the write at time `t` adds along the key, over a state `S`: the strength times what the value differs by from
    what the decayed state holds at that key. -/
def Inputs.write (x : Inputs D) (t : ℕ) (S : Matrix (Fin D) (Fin D) ℝ) (j : Fin D) : ℝ :=
  (x.v t j - ∑ a, x.k t a * (S a j * Real.exp (x.g t))) * x.b t

/-- The state after the step at time `t`, over the state before it. -/
def Inputs.step (x : Inputs D) (t : ℕ) (S : Matrix (Fin D) (Fin D) ℝ) : Matrix (Fin D) (Fin D) ℝ :=
  fun a j => S a j * Real.exp (x.g t) + x.k t a * x.write t S j

/-- The state after `n` steps from time `t₀`, started at `S`. -/
def Inputs.state (x : Inputs D) (t₀ : ℕ) (S : Matrix (Fin D) (Fin D) ℝ) : ℕ → Matrix (Fin D) (Fin D) ℝ
  | 0 => S
  | n + 1 => x.step (t₀ + n) (x.state t₀ S n)

/-- What a query reads of a state. -/
def Inputs.read (x : Inputs D) (t : ℕ) (S : Matrix (Fin D) (Fin D) ℝ) (j : Fin D) : ℝ := ∑ a, x.q t a * S a j

/-- Running `n + l` steps is running `l` steps after `n`. -/
theorem Inputs.state_add (x : Inputs D) (t₀ : ℕ) (S : Matrix (Fin D) (Fin D) ℝ) (n l : ℕ) :
    x.state t₀ S (n + l) = x.state (t₀ + n) (x.state t₀ S n) l := by
  induction l with
  | zero => rfl
  | succ l ih => rw [← add_assoc, Inputs.state, Inputs.state, ih, add_assoc]

/-- The sum of the first `n` log decays from time `t₀`. -/
def Inputs.decay (x : Inputs D) (t₀ n : ℕ) : ℝ := ∑ i ∈ range n, x.g (t₀ + i)

/-- The write at step `n`, over the state the steps before it leave. -/
def Inputs.writeAt (x : Inputs D) (t₀ : ℕ) (S : Matrix (Fin D) (Fin D) ℝ) (n : ℕ) (j : Fin D) : ℝ :=
  x.write (t₀ + n) (x.state t₀ S n) j

/-- The state after `n` steps is the decayed first state and every write so far, each decayed since it was made. -/
theorem Inputs.state_eq (x : Inputs D) (t₀ : ℕ) (S : Matrix (Fin D) (Fin D) ℝ) (n : ℕ) (a j : Fin D) :
    x.state t₀ S n a j = Real.exp (x.decay t₀ n) * S a j
      + ∑ i ∈ range n, Real.exp (x.decay t₀ n - x.decay t₀ (i + 1)) * x.k (t₀ + i) a * x.writeAt t₀ S i j := by
  induction n with
  | zero => simp [Inputs.state, Inputs.decay]
  | succ n ih =>
    have hd : x.decay t₀ (n + 1) = x.decay t₀ n + x.g (t₀ + n) := sum_range_succ _ _
    rw [Inputs.state, Inputs.step, ih, sum_range_succ, sub_self, Real.exp_zero, one_mul, ← Inputs.writeAt, hd,
      Real.exp_add, add_mul, sum_mul, ← add_assoc]
    congr 1
    congr 1
    · ring
    · refine sum_congr rfl fun i _ => ?_
      rw [show x.decay t₀ n + x.g (t₀ + n) - x.decay t₀ (i + 1)
        = (x.decay t₀ n - x.decay t₀ (i + 1)) + x.g (t₀ + n) by ring, Real.exp_add]
      ring

/-- The writes solve the triangular system: each, and what the earlier ones contribute to it, is what the first
    state alone would have it write. -/
theorem Inputs.writeAt_system (x : Inputs D) (t₀ : ℕ) (S : Matrix (Fin D) (Fin D) ℝ) (n : ℕ) (j : Fin D) :
    x.writeAt t₀ S n j + ∑ i ∈ range n, x.b (t₀ + n) * Real.exp (x.decay t₀ (n + 1) - x.decay t₀ (i + 1))
        * (∑ a, x.k (t₀ + n) a * x.k (t₀ + i) a) * x.writeAt t₀ S i j
      = x.b (t₀ + n) * (x.v (t₀ + n) j - ∑ a, x.k (t₀ + n) a * Real.exp (x.decay t₀ (n + 1)) * S a j) := by
  have hd : x.decay t₀ (n + 1) = x.decay t₀ n + x.g (t₀ + n) := sum_range_succ _ _
  have hs : ∑ a, x.k (t₀ + n) a * (x.state t₀ S n a j * Real.exp (x.g (t₀ + n)))
      = ∑ a, x.k (t₀ + n) a * Real.exp (x.decay t₀ (n + 1)) * S a j
        + ∑ i ∈ range n, Real.exp (x.decay t₀ (n + 1) - x.decay t₀ (i + 1))
          * (∑ a, x.k (t₀ + n) a * x.k (t₀ + i) a) * x.writeAt t₀ S i j := by
    have : ∀ i, Real.exp (x.decay t₀ (n + 1) - x.decay t₀ (i + 1)) * (∑ a, x.k (t₀ + n) a * x.k (t₀ + i) a)
        * x.writeAt t₀ S i j = ∑ a, x.k (t₀ + n) a * (Real.exp (x.decay t₀ (n + 1) - x.decay t₀ (i + 1))
          * x.k (t₀ + i) a * x.writeAt t₀ S i j) := fun i => by
      rw [mul_sum, sum_mul]; exact sum_congr rfl fun a _ => by ring
    rw [sum_congr rfl fun i _ => this i, sum_comm, ← sum_add_distrib]
    refine sum_congr rfl fun a _ => ?_
    rw [x.state_eq t₀ S n a j, add_mul, mul_add, ← mul_sum, sum_mul, hd, Real.exp_add]
    congr 1
    · ring
    · congr 1
      refine sum_congr rfl fun i _ => ?_
      rw [show x.decay t₀ n + x.g (t₀ + n) - x.decay t₀ (i + 1)
        = (x.decay t₀ n - x.decay t₀ (i + 1)) + x.g (t₀ + n) by ring, Real.exp_add]
      ring
  have hw : x.writeAt t₀ S n j = (x.v (t₀ + n) j - ∑ a, x.k (t₀ + n) a * (x.state t₀ S n a j
      * Real.exp (x.g (t₀ + n)))) * x.b (t₀ + n) := rfl
  rw [hw, hs]
  have : ∑ i ∈ range n, x.b (t₀ + n) * Real.exp (x.decay t₀ (n + 1) - x.decay t₀ (i + 1))
        * (∑ a, x.k (t₀ + n) a * x.k (t₀ + i) a) * x.writeAt t₀ S i j
      = x.b (t₀ + n) * ∑ i ∈ range n, Real.exp (x.decay t₀ (n + 1) - x.decay t₀ (i + 1))
        * (∑ a, x.k (t₀ + n) a * x.k (t₀ + i) a) * x.writeAt t₀ S i j := by
    rw [mul_sum]; exact sum_congr rfl fun i _ => by ring
  rw [this]
  ring

end Cert.Delta

end
-- ==== Proof.Chunk.lean ====
/- What the kernel computes for one chunk of 64 steps, over the real numbers, and that it is the recurrence: the loop
   over squares gives the inverse of the chunk's unit lower triangular system, so its writes, its reads and the state it
   leaves are the recurrence's. Nothing here is about either program. -/
module

public import proofs.«01_k».proof.Proof.Recurrence

@[expose] public section

noncomputable section

namespace Cert.Delta

open Finset

/-! ## The formulas -/

section Formulas

variable {D : ℕ}

/-- The sums of the log decays up to and including each step, a row. -/
def sums (g : Matrix (Fin 1) (Fin 64) ℝ) : Matrix (Fin 1) (Fin 64) ℝ :=
  g * (Matrix.of fun i j => if i ≤ j then 1 else 0 : Matrix (Fin 64) (Fin 64) ℝ)

/-- How much of a write at step `j` is left at step `i`, on and below the diagonal. -/
def kept (g : Matrix (Fin 1) (Fin 64) ℝ) : Matrix (Fin 64) (Fin 64) ℝ :=
  Matrix.of fun i j => if j ≤ i then Real.exp (sums g 0 i - sums g 0 j) else 0

/-- How much of a write at step `j` is left at step `i`, below the diagonal. -/
def keptBelow (g : Matrix (Fin 1) (Fin 64) ℝ) : Matrix (Fin 64) (Fin 64) ℝ :=
  Matrix.of fun i j => if j < i then Real.exp (sums g 0 i - sums g 0 j) else 0

/-- The rows of `f`, each times what is left at its step of the state before the chunk. -/
def decayed (g : Matrix (Fin 1) (Fin 64) ℝ) (f : Matrix (Fin 64) (Fin D) ℝ) : Matrix (Fin 64) (Fin D) ℝ :=
  Matrix.of fun i a => f i a * Real.exp (sums g 0 i)

/-- The strictly lower triangular part of the chunk's system. -/
def lower (k : Matrix (Fin 64) (Fin D) ℝ) (g b : Matrix (Fin 1) (Fin 64) ℝ) : Matrix (Fin 64) (Fin 64) ℝ :=
  Matrix.of fun i j => b 0 i * keptBelow g i j * (k * k.transpose) i j

/-- One round of the loop: from a product `T` and a power `P`, the product `T + T P`. -/
def round (T P : Matrix (Fin 64) (Fin 64) ℝ) : Matrix (Fin 64) (Fin 64) ℝ := T + T * P

/-- The power `A ^ (2 ^ n)`, by squaring `n` times. -/
def square (A : Matrix (Fin 64) (Fin 64) ℝ) : ℕ → Matrix (Fin 64) (Fin 64) ℝ
  | 0 => A
  | n + 1 => square A n * square A n

/-- The loop's product after `n` rounds, from `I - A`. -/
def product (A : Matrix (Fin 64) (Fin 64) ℝ) : ℕ → Matrix (Fin 64) (Fin 64) ℝ
  | 0 => 1 - A
  | n + 1 => round (product A n) (square A (n + 1))

/-- The right-hand side of the chunk's system. -/
def rhs (k v : Matrix (Fin 64) (Fin D) ℝ) (g b : Matrix (Fin 1) (Fin 64) ℝ) (S : Matrix (Fin D) (Fin D) ℝ) :
    Matrix (Fin 64) (Fin D) ℝ :=
  Matrix.of fun i j => b 0 i * (v - decayed g k * S) i j

/-- The chunk's writes. -/
def writes (k v : Matrix (Fin 64) (Fin D) ℝ) (g b : Matrix (Fin 1) (Fin 64) ℝ) (S : Matrix (Fin D) (Fin D) ℝ) :
    Matrix (Fin 64) (Fin D) ℝ :=
  product (lower k g b) 5 * rhs k v g b S

/-- What the chunk's queries read. -/
def reads (q k v : Matrix (Fin 64) (Fin D) ℝ) (g b : Matrix (Fin 1) (Fin 64) ℝ) (S : Matrix (Fin D) (Fin D) ℝ) :
    Matrix (Fin 64) (Fin D) ℝ :=
  decayed g q * S + (Matrix.of fun i j => kept g i j * (q * k.transpose) i j) * writes k v g b S

/-- The state the chunk leaves. -/
def next (k v : Matrix (Fin 64) (Fin D) ℝ) (g b : Matrix (Fin 1) (Fin 64) ℝ) (S : Matrix (Fin D) (Fin D) ℝ) :
    Matrix (Fin D) (Fin D) ℝ :=
  (Matrix.of fun i j => Real.exp (sums g 0 63) * S i j)
    + (Matrix.of fun i a => k i a * Real.exp (sums g 0 63 - sums g 0 i)).transpose * writes k v g b S

end Formulas

/-! ## The loop inverts the system -/

section Inverse

variable (A : Matrix (Fin 64) (Fin 64) ℝ)

/-- `square A n` is a power of `A`. -/
theorem square_eq (n : ℕ) : square A n = A ^ 2 ^ n := by
  induction n with
  | zero => simp [square]
  | succ n ih => rw [square, ih, ← pow_add, pow_succ 2 n, mul_two]

/-- After `n` rounds the product times `I + A` is `I` less the next power. -/
theorem product_mul (n : ℕ) : product A n * (1 + A) = 1 - square A (n + 1) := by
  induction n with
  | zero => rw [product, square, square]; noncomm_ring
  | succ n ih =>
    have hc : square A (n + 1) * (1 + A) = (1 + A) * square A (n + 1) := by
      rw [square_eq, mul_add, add_mul, mul_one, one_mul, ← pow_succ, ← pow_succ']
    rw [product, round, add_mul, mul_assoc, hc, ← mul_assoc, ih, square.eq_2 A (n + 1)]
    noncomm_ring

/-- A power `n` of a strictly lower triangular matrix is zero above its `n`-th diagonal. -/
theorem pow_apply_eq_zero (h : ∀ i j, i ≤ j → A i j = 0) (n : ℕ) (i j : Fin 64) (hij : (i : ℕ) < j + n) :
    (A ^ n) i j = 0 := by
  induction n generalizing j with
  | zero => rw [pow_zero, Matrix.one_apply_ne (Fin.ne_of_lt (by simpa using hij))]
  | succ n ih =>
    rw [pow_succ, Matrix.mul_apply]
    refine sum_eq_zero fun l _ => ?_
    by_cases hl : l ≤ j
    · rw [h l j hl, mul_zero]
    · rw [ih l (by have := Fin.lt_def.mp (not_le.mp hl); omega), zero_mul]

/-- For a strictly lower triangular `A` the five rounds give the inverse of `I + A`. -/
theorem product_inverse (h : ∀ i j, i ≤ j → A i j = 0) : product A 5 * (1 + A) = 1 := by
  have : square A 6 = 0 := by
    rw [square_eq]
    ext i j
    exact pow_apply_eq_zero A h _ i j (by have := i.isLt; omega)
  rw [product_mul, this, sub_zero]

end Inverse

/-! ## A chunk of the recurrence -/

section Chunk

variable {D : ℕ} (x : Inputs D) (t₀ : ℕ) (S : Matrix (Fin D) (Fin D) ℝ)

/-- The chunk's 64 rows of a sequence, from time `t₀`. -/
def rows (f : ℕ → Fin D → ℝ) (t₀ : ℕ) : Matrix (Fin 64) (Fin D) ℝ := Matrix.of fun i a => f (t₀ + i) a

/-- An entry of the rows of a chunk. -/
@[simp] theorem rows_apply (f : ℕ → Fin D → ℝ) (i : Fin 64) (a : Fin D) : rows f t₀ i a = f (t₀ + i) a := rfl

/-- The chunk's 64 numbers of a sequence, a row, from time `t₀`. -/
def row (f : ℕ → ℝ) (t₀ : ℕ) : Matrix (Fin 1) (Fin 64) ℝ := Matrix.of fun _ i => f (t₀ + i)

/-- A sum over the steps of a chunk before `n`, as a sum over the chunk. -/
theorem sum_chunk (f : ℕ → ℝ) (n : ℕ) (hn : n ≤ 64) :
    ∑ i : Fin 64, (if (i : ℕ) < n then f i else 0) = ∑ i ∈ range n, f i := by
  rw [Fin.sum_univ_eq_sum_range (fun i => if i < n then f i else 0) 64, ← sum_filter]
  congr 1
  ext i
  simp only [mem_filter, mem_range]
  omega

/-- The running sums are the recurrence's. -/
theorem sums_row (i : Fin 64) : sums (row x.g t₀) 0 i = x.decay t₀ (i + 1) := by
  rw [sums, Matrix.mul_apply, Inputs.decay, ← sum_chunk _ _ (by omega)]
  refine sum_congr rfl fun j _ => ?_
  simp only [row, Matrix.of_apply, Fin.le_def, Nat.lt_succ_iff]
  split <;> simp

/-- The chunk's writes are the recurrence's. -/
theorem writes_eq (i : Fin 64) (j : Fin D) :
    writes (rows x.k t₀) (rows x.v t₀) (row x.g t₀) (row x.b t₀) S i j = x.writeAt t₀ S i j := by
  set A := lower (rows x.k t₀) (row x.g t₀) (row x.b t₀) with hA
  let U : Matrix (Fin 64) (Fin D) ℝ := Matrix.of fun i j => x.writeAt t₀ S i j
  have hsys : (1 + A) * U = rhs (rows x.k t₀) (rows x.v t₀) (row x.g t₀) (row x.b t₀) S := by
    ext i j
    have hs := x.writeAt_system t₀ S i j
    rw [← sum_chunk (fun l => x.b (t₀ + i) * Real.exp (x.decay t₀ (i + 1) - x.decay t₀ (l + 1))
        * (∑ a, x.k (t₀ + i) a * x.k (t₀ + l) a) * x.writeAt t₀ S l j) i (by omega)] at hs
    rw [Matrix.add_mul, Matrix.one_mul, Matrix.add_apply, Matrix.mul_apply]
    simp only [rhs, decayed, Matrix.of_apply, Matrix.sub_apply, Matrix.mul_apply, sums_row]
    refine Eq.trans (congrArg₂ (· + ·) rfl (sum_congr rfl fun l _ => ?_)) hs
    simp only [hA, lower, keptBelow, Matrix.of_apply, sums_row, Matrix.mul_apply, Matrix.transpose_apply, Fin.lt_def, U]
    split
    · rfl
    · simp
  have hlow : ∀ i j, i ≤ j → A i j = 0 := fun i j h => by
    simp [hA, lower, keptBelow, not_lt.mpr h]
  have : writes (rows x.k t₀) (rows x.v t₀) (row x.g t₀) (row x.b t₀) S = U := by
    rw [writes, ← hA, ← hsys, ← Matrix.mul_assoc, product_inverse A hlow, Matrix.one_mul]
  rw [this]; rfl

/-- What the chunk's queries read is what the recurrence's read, each of the state after its own step. -/
theorem reads_eq (i : Fin 64) (j : Fin D) :
    reads (rows x.q t₀) (rows x.k t₀) (rows x.v t₀) (row x.g t₀) (row x.b t₀) S i j
      = x.read (t₀ + i) (x.state t₀ S (i + 1)) j := by
  rw [reads, Matrix.add_apply, Matrix.mul_apply, Matrix.mul_apply, Inputs.read]
  have : ∀ a, x.q (t₀ + i) a * x.state t₀ S (i + 1) a j
      = x.q (t₀ + i) a * Real.exp (x.decay t₀ (i + 1)) * S a j
        + ∑ l ∈ range (i + 1), Real.exp (x.decay t₀ (i + 1) - x.decay t₀ (l + 1))
          * (x.q (t₀ + i) a * x.k (t₀ + l) a) * x.writeAt t₀ S l j := fun a => by
    rw [x.state_eq, mul_add, mul_sum]
    congr 1
    · ring
    · exact sum_congr rfl fun l _ => by ring
  rw [sum_congr rfl fun a _ => this a, sum_add_distrib, sum_comm]
  congr 1
  · refine sum_congr rfl fun a _ => ?_
    simp only [decayed, Matrix.of_apply, sums_row, rows_apply]
  · rw [← sum_chunk (fun l => ∑ a, Real.exp (x.decay t₀ (i + 1) - x.decay t₀ (l + 1))
          * (x.q (t₀ + i) a * x.k (t₀ + l) a) * x.writeAt t₀ S l j) (i + 1) (by omega)]
    refine sum_congr rfl fun l _ => ?_
    simp only [kept, Matrix.of_apply, sums_row, Matrix.mul_apply, Matrix.transpose_apply, rows_apply, writes_eq, Fin.le_def,
      Nat.lt_succ_iff]
    split
    · rw [mul_sum, sum_mul]
    · simp

/-- The state the chunk leaves is the recurrence's after 64 steps. -/
theorem next_eq : next (rows x.k t₀) (rows x.v t₀) (row x.g t₀) (row x.b t₀) S = x.state t₀ S 64 := by
  ext a j
  rw [next, Matrix.add_apply, Matrix.mul_apply, x.state_eq, ← sum_chunk (fun i => Real.exp (x.decay t₀ 64
    - x.decay t₀ (i + 1)) * x.k (t₀ + i) a * x.writeAt t₀ S i j) 64 le_rfl]
  have h63 : sums (row x.g t₀) 0 63 = x.decay t₀ 64 := sums_row x t₀ 63
  congr 1
  · simp only [Matrix.of_apply, h63]
  · refine sum_congr rfl fun l _ => ?_
    simp only [Matrix.of_apply, Matrix.transpose_apply, h63, sums_row, writes_eq, rows_apply, l.isLt, if_true]
    ring

end Chunk

end Cert.Delta

end
-- ==== Proof.RealArrays.lean ====
/- Arrays of real numbers among the arrays of extended reals, and what each operation of the kernel's body makes of
   them: on arrays whose entries are real, every operation gives an array whose entries are real, and which. -/
module

public import proofs.«01_k».proof.Proof.Gen.KernelIdeal
public import proofs.«01_k».proof.Proof.Gen.KernelIdeal.Skeleton
public import Idealize.ShloMosaic.Lib.Pointwise

@[expose] public section

noncomputable section

namespace Cert.Delta

open Idealize.ShloMosaic Cert.KernelIdeal Cert.KernelIdeal.Gen

/-- The matrix `f` of real numbers as an array of extended reals. -/
def mat {m n : ℕ} (f : Matrix (Fin m) (Fin n) ℝ) : FVec Ideal ⟨2, ![m, n]⟩ .f32 := fun j => ((f (j 0) (j 1) : ℝ) : EReal)

/-- An entry of a matrix of real numbers, as an array. -/
theorem mat_ix {m n : ℕ} (f : Matrix (Fin m) (Fin n) ℝ) (i : Fin m) (j : Fin n) :
    mat f (ix2 i j) = ((f i j : ℝ) : EReal) := rfl

/-- A finite sum of real numbers is the same sum of extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, EReal.coe_add, ih]

section Elementwise

variable {m n : ℕ} (f g : Matrix (Fin m) (Fin n) ℝ)

/-- The sum of two matrices. -/
theorem mat_addf : addf (mat f) (mat g) = mat (f + g) := rfl

/-- The difference of two matrices. -/
theorem mat_subf : subf (mat f) (mat g) = mat (f - g) := rfl

/-- The entrywise product of two matrices. -/
theorem mat_mulf : mulf (mat f) (mat g) = mat (.of fun i j => f i j * g i j) := rfl

/-- The exponential of every entry. -/
theorem mat_exp : exp (mat f) = mat (.of fun i j => Real.exp (f i j)) :=
  funext fun j => Ideal.exp_coe _

end Elementwise

/-! ## Broadcasts, casts and a slice -/

/-- A column of 64 repeated 64 times. -/
theorem mat_col_64 (f : Matrix (Fin 64) (Fin 1) ℝ) :
    broadcastTo S64x64 (mat f) broadcasts_S64x1_S64x64 = mat (.of fun i _ => f i 0) := by
  funext j; idx_vars j; pointwise [mat]; rfl

/-- A row of 64 repeated 64 times. -/
theorem mat_row_64 (f : Matrix (Fin 1) (Fin 64) ℝ) :
    broadcastTo S64x64 (mat f) broadcasts_S1x64_S64x64 = mat (.of fun _ j => f 0 j) := by
  funext j; idx_vars j; pointwise [mat]; rfl

/-- A column of 64 repeated 128 times. -/
theorem mat_col_128 (f : Matrix (Fin 64) (Fin 1) ℝ) :
    broadcastTo S64x128 (mat f) broadcasts_S64x1_S64x128 = mat (.of fun i _ => f i 0) := by
  funext j; idx_vars j; pointwise [mat]; rfl

/-- One number repeated down a column of 64. -/
theorem mat_one_col (f : Matrix (Fin 1) (Fin 1) ℝ) :
    broadcastTo S64x1 (mat f) broadcasts_S1x1_S64x1 = mat (.of fun _ _ => f 0 0) := by
  funext j; idx_vars j; pointwise [mat]; rfl

/-- One number repeated over a 128 by 128 array. -/
theorem mat_one_128 (f : Matrix (Fin 1) (Fin 1) ℝ) :
    broadcastTo S128x128 (mat f) broadcasts_S1x1_S128x128 = mat (.of fun _ _ => f 0 0) := by
  funext j; idx_vars j; pointwise [mat]; rfl

/-- A row of 64 as a column. -/
theorem mat_row_to_col (f : Matrix (Fin 1) (Fin 64) ℝ) :
    shapeCast S64x1 (mat f) shapeCasts_S1x64_S64x1 = mat (.of fun i _ => f 0 i) := by
  funext j; idx_vars j; pointwise [mat]; rfl

/-- The last entry of a row of 64. -/
theorem mat_last (f : Matrix (Fin 1) (Fin 64) ℝ) :
    extractStridedSlice S1x1 ![0, 63] (mat f) slices_S1x64_o0_63_S1x1 = mat (.of fun _ _ => f 0 63) := by
  funext j; idx_vars j; pointwise [mat]; rfl

/-! ## Products -/

/-- A sum of products of real numbers, among the extended reals. -/
theorem coe_sum_mul {ι : Type} [Fintype ι] (f g : ι → ℝ) :
    ∑ i, ((f i : ℝ) : EReal) * ((g i : ℝ) : EReal) = ((∑ i, f i * g i : ℝ) : EReal) := by
  rw [← coe_sum]; exact Finset.sum_congr rfl fun i _ => (EReal.coe_mul _ _).symm

/-- A row of 64 times a 64 by 64 matrix. -/
theorem mat_mul_row (f : Matrix (Fin 1) (Fin 64) ℝ) (g : Matrix (Fin 64) (Fin 64) ℝ) :
    matmul (φ₁ := .f32) (φ₂ := .f32) dot_S1x64_S64x64_S1x64_1_0_0_1_n_n (some .fp32) (mat f) (mat g)
      (constant S1x64 .f32 0x00000000#32) = mat (f * g) := by
  funext j; idx_vars j; pointwise [mat]; exact coe_sum_mul _ _

/-- The product of two 64 by 64 matrices. -/
theorem mat_mul_64 (f g : Matrix (Fin 64) (Fin 64) ℝ) :
    matmul (φ₁ := .f32) (φ₂ := .f32) dot_S64x64_S64x64_S64x64_1_0_0_1_n_n none (mat f) (mat g)
      (constant S64x64 .f32 0x00000000#32) = mat (f * g) := by
  funext j; idx_vars j; pointwise [mat]; exact coe_sum_mul _ _

/-- A 64 by 64 matrix times a 64 by 128 matrix. -/
theorem mat_mul_64_128 (f : Matrix (Fin 64) (Fin 64) ℝ) (g : Matrix (Fin 64) (Fin 128) ℝ) :
    matmul (φ₁ := .f32) (φ₂ := .f32) dot_S64x64_S64x128_S64x128_1_0_0_1_n_n none (mat f) (mat g)
      (constant S64x128 .f32 0x00000000#32) = mat (f * g) := by
  funext j; idx_vars j; pointwise [mat]; exact coe_sum_mul _ _

/-- A 64 by 128 matrix times a 128 by 128 matrix. -/
theorem mat_mul_128 (f : Matrix (Fin 64) (Fin 128) ℝ) (g : Matrix (Fin 128) (Fin 128) ℝ) :
    matmul (φ₁ := .f32) (φ₂ := .f32) dot_S64x128_S128x128_S64x128_1_0_0_1_n_n none (mat f) (mat g)
      (constant S64x128 .f32 0x00000000#32) = mat (f * g) := by
  funext j; idx_vars j; pointwise [mat]; exact coe_sum_mul _ _

/-- The products of the rows of two arrays. -/
theorem mat_mul_rows (f g : Matrix (Fin 64) (Fin 128) ℝ) :
    matmul (φ₁ := .f32) (φ₂ := .f32) dot_S64x128_S64x128_S64x64_1_1_0_0_n_n none (mat f) (mat g)
      (constant S64x64 .f32 0x00000000#32) = mat (f * g.transpose) := by
  funext j; idx_vars j; pointwise [mat]; exact coe_sum_mul _ _

/-- The products of the columns of two arrays. -/
theorem mat_mul_cols (f g : Matrix (Fin 64) (Fin 128) ℝ) :
    matmul (φ₁ := .f32) (φ₂ := .f32) dot_S64x128_S64x128_S128x128_0_0_1_1_n_n none (mat f) (mat g)
      (constant S128x128 .f32 0x00000000#32) = mat (f.transpose * g) := by
  funext j; idx_vars j; pointwise [mat]; exact coe_sum_mul _ _

/-! ## The masks -/

/-- The comparisons of two positions of a chunk, as the words the program compares. -/
theorem cmpi_positions : ∀ i j : Fin 64,
    IntOp.cmpi .sle (BitVec.ofNat 32 i) (BitVec.ofNat 32 j) = (if i ≤ j then 1#1 else 0#1)
    ∧ IntOp.cmpi .sge (BitVec.ofNat 32 i) (BitVec.ofNat 32 j) = (if j ≤ i then 1#1 else 0#1)
    ∧ IntOp.cmpi .sgt (BitVec.ofNat 32 i) (BitVec.ofNat 32 j) = (if j < i then 1#1 else 0#1)
    ∧ IntOp.cmpi .eq (BitVec.ofNat 32 i) (BitVec.ofNat 32 j) = (if i = j then 1#1 else 0#1) := by
  decide +kernel

/-- A decided bit, widened and read as a number, is one or zero. -/
theorem sitofp_bit (p : Prop) [Decidable p] :
    (FloatOps.sitofp (F := Ideal) .f32 (BitVec.setWidth 32 (if p then 1#1 else 0#1)) : EReal)
      = (((if p then 1 else 0 : ℝ)) : EReal) := by
  show ((BitVec.toInt _ : ℝ) : EReal) = _
  split <;> simp

/-- The named constant is minus infinity. -/
theorem named_mask : (Named.named κ "mask" 0xF149F2CA#32 : Ideal .f32) = (⊥ : EReal) :=
  IdealRules.named_const.ideal_named_scalar κ "mask" _ _ rfl

/-- The exponential of a number where a bit is set, and of minus infinity where it is not. -/
theorem exp_select (p : Prop) [Decidable p] (x : ℝ) :
    Ideal.exp (Scalar.select (if p then 1#1 else 0#1) (x : EReal) (⊥ : EReal))
      = (((if p then Real.exp x else 0 : ℝ)) : EReal) := by
  split
  · exact Ideal.exp_coe x
  · simp [Scalar.select]

/-- The 64 by 64 array that is one on and above the diagonal. -/
theorem mat_upper : sitofp (F := Ideal) .f32 (extui 32 (cmpi .sle (iota .tc S64x64 32 [0] iota_S64x64_d0_w32)
      (iota .tc S64x64 32 [1] iota_S64x64_d1_w32)) natLt_1_32)
    = mat (.of fun i j => if i ≤ j then 1 else 0) := by
  funext j; idx_vars j; pointwise [mat]
  rw [(cmpi_positions j0 j1).1]; exact sitofp_bit _

/-- The 64 by 64 identity. -/
theorem mat_eye : sitofp (F := Ideal) .f32 (extui 32 (cmpi .eq (iota .tc S64x64 32 [0] iota_S64x64_d0_w32)
      (iota .tc S64x64 32 [1] iota_S64x64_d1_w32)) natLt_1_32) = mat 1 := by
  funext j; idx_vars j; pointwise [mat]
  rw [(cmpi_positions j0 j1).2.2.2]; exact sitofp_bit _

/-- The exponentials kept on and below the diagonal. -/
theorem mat_masked_incl (f : Matrix (Fin 64) (Fin 64) ℝ) :
    exp (select (cmpi .sge (iota .tc S64x64 32 [0] iota_S64x64_d0_w32) (iota .tc S64x64 32 [1] iota_S64x64_d1_w32))
      (mat f) (broadcast S64x64 (Named.named κ "mask" 0xF149F2CA#32 : Ideal .f32)))
    = mat (.of fun i j => if j ≤ i then Real.exp (f i j) else 0) := by
  funext j; idx_vars j; pointwise [mat]
  rw [(cmpi_positions j0 j1).2.1, named_mask]; exact exp_select _ _

/-- The exponentials kept below the diagonal. -/
theorem mat_masked_strict (f : Matrix (Fin 64) (Fin 64) ℝ) :
    exp (select (cmpi .sgt (iota .tc S64x64 32 [0] iota_S64x64_d0_w32) (iota .tc S64x64 32 [1] iota_S64x64_d1_w32))
      (mat f) (broadcast S64x64 (Named.named κ "mask" 0xF149F2CA#32 : Ideal .f32)))
    = mat (.of fun i j => if j < i then Real.exp (f i j) else 0) := by
  funext j; idx_vars j; pointwise [mat]
  rw [(cmpi_positions j0 j1).2.2.1, named_mask]; exact exp_select _ _

end Cert.Delta

end
-- ==== Proof.Block.lean ====
/- What the kernel's body computes from blocks of real numbers: the chunk formulas of `Chunk.lean`, payload by payload. -/
module

public import proofs.«01_k».proof.Proof.Chunk
public import proofs.«01_k».proof.Proof.RealArrays

@[expose] public section

noncomputable section

namespace Cert.Delta

open Idealize.ShloMosaic Cert.KernelIdeal Cert.KernelIdeal.Gen

/-- The matrix `f` as a block with one leading unit axis. -/
def box {m n : ℕ} (f : Matrix (Fin m) (Fin n) ℝ) : FVec Ideal ⟨3, ![1, m, n]⟩ .f32 := fun j => ((f (j 1) (j 2) : ℝ) : EReal)

/-- The row `f` as a block with two leading unit axes. -/
def line (f : Matrix (Fin 1) (Fin 64) ℝ) : FVec Ideal ⟨4, ![1, 1, 1, 64]⟩ .f32 := fun j => ((f 0 (j 3) : ℝ) : EReal)

variable (q k v : Matrix (Fin 64) (Fin 128) ℝ) (g b : Matrix (Fin 1) (Fin 64) ℝ) (S : Matrix (Fin 128) (Fin 128) ℝ)

/-! ## Reading the blocks -/

/-- The block of queries, read as a matrix. -/
theorem pay4_box : k0_pay4 (F := Ideal) (box q) = mat q := by
  funext j; idx_vars j; pointwise [k0_pay4, box, mat]

/-- The block of keys, read as a matrix. -/
theorem pay5_box : k0_pay5 (F := Ideal) (box k) = mat k := pay4_box k

/-- The block of values, read as a matrix. -/
theorem pay6_box : k0_pay6 (F := Ideal) (box v) = mat v := pay4_box v

/-- The block of the state, read as a matrix. -/
theorem pay7_box : k0_pay7 (F := Ideal) (box S) = mat S := by
  funext j; idx_vars j; pointwise [k0_pay7, box, mat]

/-- A row block read as a row. -/
theorem line_row : shapeCast S1x64 (line g) shapeCasts_S1x1x1x64_S1x64 = mat g := by
  funext j; idx_vars j; rw [Subsingleton.elim j0 0]; pointwise [line, mat]

/-- The running sums, a row. -/
theorem pay8_line : k0_pay8 (F := Ideal) (line g) = mat (sums g) := by
  unfold k0_pay8
  dsimp only
  rw [line_row, mat_upper, mat_mul_row]
  rfl

/-- The running sums, a column. -/
theorem pay9_line : k0_pay9 (F := Ideal) (line g) = mat (.of fun i _ => sums g 0 i) := by
  unfold k0_pay9
  simp only [pay8_line, mat_row_to_col]

/-- The write strengths, a column. -/
theorem pay10_line : k0_pay10 (F := Ideal) (line b) = mat (.of fun i _ => b 0 i) := by
  unfold k0_pay10
  simp only [line_row, mat_row_to_col]

/-- The exponentials of the running sums, a column. -/
theorem pay11_line : k0_pay11 (F := Ideal) (line g) = mat (.of fun i _ => Real.exp (sums g 0 i)) := by
  unfold k0_pay11
  simp only [pay9_line, mat_exp, Matrix.of_apply]

/-- The differences of the running sums. -/
theorem pay12_line : k0_pay12 (F := Ideal) (line g) = mat (.of fun i j => sums g 0 i - sums g 0 j) := by
  unfold k0_pay12
  simp only [pay8_line, pay9_line, mat_col_64, mat_row_64, mat_subf, Matrix.of_apply]
  rfl

/-- What is left of the writes, on and below the diagonal. -/
theorem pay13_line : k0_pay13 (F := Ideal) (line g) = mat (kept g) := by
  unfold k0_pay13
  dsimp only
  rw [pay12_line, mat_masked_incl]
  rfl

/-! ## The writes, the reads and the next state -/

/-- The system's strictly lower triangular part. -/
theorem lower_mat :
    mulf (mulf (broadcastTo S64x64 (mat (.of fun i _ => b 0 i)) broadcasts_S64x1_S64x64)
        (exp (select (cmpi .sgt (iota .tc S64x64 32 [0] iota_S64x64_d0_w32) (iota .tc S64x64 32 [1] iota_S64x64_d1_w32))
          (mat (.of fun i j => sums g 0 i - sums g 0 j)) (broadcast S64x64 (Named.named κ "mask" 0xF149F2CA#32 : Ideal .f32)))))
      (matmul (φ₁ := .f32) (φ₂ := .f32) dot_S64x128_S64x128_S64x64_1_1_0_0_n_n none (mat k) (mat k)
        (constant S64x64 .f32 0x00000000#32))
      = mat (lower k g b) := by
  rw [mat_col_64, mat_masked_strict, mat_mul_rows, mat_mulf, mat_mulf]
  rfl

/-- One round of the loop. -/
theorem round_mat (T P : Matrix (Fin 64) (Fin 64) ℝ) :
    addf (mat T) (matmul (φ₁ := .f32) (φ₂ := .f32) dot_S64x64_S64x64_S64x64_1_0_0_1_n_n none (mat T) (mat P)
      (constant S64x64 .f32 0x00000000#32)) = mat (round T P) := by
  rw [mat_mul_64, mat_addf]; rfl

/-- One squaring. -/
theorem square_mat (A : Matrix (Fin 64) (Fin 64) ℝ) (n : ℕ) :
    matmul (φ₁ := .f32) (φ₂ := .f32) dot_S64x64_S64x64_S64x64_1_0_0_1_n_n none (mat (square A n)) (mat (square A n))
      (constant S64x64 .f32 0x00000000#32) = mat (square A (n + 1)) := by
  rw [mat_mul_64]; rfl

/-- The chunk's writes. -/
theorem pay14_mat :
    k0_pay14 (F := Ideal) (mat k) (mat v) (mat S) (mat (.of fun i _ => b 0 i)) (mat (.of fun i _ => Real.exp (sums g 0 i)))
        (iota .tc S64x64 32 [0] iota_S64x64_d0_w32) (iota .tc S64x64 32 [1] iota_S64x64_d1_w32)
        (mat (.of fun i j => sums g 0 i - sums g 0 j))
      = mat (writes k v g b S) := by
  unfold k0_pay14
  dsimp only
  have h0 : subf (mat 1) (mat (lower k g b)) = mat (product (lower k g b) 0) := rfl
  have h1 := square_mat (lower k g b) 0
  rw [square] at h1
  rw [lower_mat, mat_eye, h0, h1]
  simp only [square_mat, round_mat]
  rw [mat_col_128, mat_col_128, mat_mulf k, mat_mul_128, mat_subf, mat_mulf, mat_mul_64_128]
  rfl

/-- What the chunk's queries read. -/
theorem pay15_mat :
    k0_pay15 (F := Ideal) (mat q) (mat k) (mat v) (mat S) (mat (.of fun i _ => b 0 i))
        (mat (.of fun i _ => Real.exp (sums g 0 i)))
        (iota .tc S64x64 32 [0] iota_S64x64_d0_w32) (iota .tc S64x64 32 [1] iota_S64x64_d1_w32)
        (mat (.of fun i j => sums g 0 i - sums g 0 j)) (mat (kept g))
      = mat (reads q k v g b S) := by
  unfold k0_pay15
  dsimp only
  rw [pay14_mat, mat_col_128, mat_mulf, mat_mul_rows, mat_mul_128, mat_mulf, mat_mul_64_128, mat_addf]
  rfl

/-- A matrix of 64 rows stored as a block. -/
theorem pay1_mat : k0_pay1 (F := Ideal) (mat q) = box q := by
  funext j; idx_vars j; pointwise [k0_pay1, box, mat]

/-- The state the chunk leaves, as the block stored. -/
theorem pay2_mat :
    k0_pay2 (F := Ideal) (mat k) (mat S) (mat (sums g)) (mat (.of fun i _ => sums g 0 i)) (mat (writes k v g b S))
      = box (next k v g b S) := by
  unfold k0_pay2
  simp only [mat_last, mat_one_col, mat_exp, mat_subf, mat_col_128, mat_mulf, mat_one_128, mat_mul_cols, mat_addf,
    Matrix.of_apply]
  funext j; idx_vars j; pointwise [mat, box]; rfl

/-- The state copied in at a head's first chunk. -/
theorem pay3_self (x : Vec Ideal S1x128x128 .f32) : k0_pay3 (F := Ideal) x = x := by
  funext j; idx_vars j; pointwise [k0_pay3]

end Cert.Delta

end
-- ==== Proof.Points.lean ====
/- One grid point of the kernel, on blocks of real numbers: what its two output blocks hold after the body. -/
module

public import proofs.«01_k».proof.Proof.Block
public import proofs.«01_k».proof.Proof.Gen.KernelIdeal.Frame
public import Idealize.ShloMosaic.Lib.Pipeline.ValueKit

@[expose] public section

noncomputable section

namespace Cert.Delta

open Idealize.ShloMosaic Idealize.ShloMosaic.TcCoe Cert.KernelIdeal Cert.KernelIdeal.Gen

variable (m : (ℓ : Loc nD τ sig) → Buf (Elt Ideal) ℓ) (c : Dev nD) (t : Fin cfg0.N)
variable (q k v : Matrix (Fin 64) (Fin 128) ℝ) (g b : Matrix (Fin 1) (Fin 64) ℝ) (S : Matrix (Fin 128) (Fin 128) ℝ)

/-- What the body stores of the reads. -/
theorem stored_reads :
    k0_pay1 (F := Ideal) (k0_pay15 (k0_pay4 (box q)) (k0_pay5 (box k)) (k0_pay6 (box v)) (k0_pay7 (box S))
        (k0_pay10 (line b)) (k0_pay11 (line g)) (iota .tc S64x64 32 [0] iota_S64x64_d0_w32)
        (iota .tc S64x64 32 [1] iota_S64x64_d1_w32) (k0_pay12 (line g)) (k0_pay13 (line g)))
      = box (reads q k v g b S) := by
  rw [pay4_box, pay5_box, pay6_box, pay7_box, pay10_line, pay11_line, pay12_line, pay13_line, pay15_mat, pay1_mat]

/-- What the body stores of the state. -/
theorem stored_next :
    k0_pay2 (F := Ideal) (k0_pay5 (box k)) (k0_pay7 (box S)) (k0_pay8 (line g)) (k0_pay9 (line g))
        (k0_pay14 (k0_pay5 (box k)) (k0_pay6 (box v)) (k0_pay7 (box S)) (k0_pay10 (line b)) (k0_pay11 (line g))
          (iota .tc S64x64 32 [0] iota_S64x64_d0_w32) (iota .tc S64x64 32 [1] iota_S64x64_d1_w32) (k0_pay12 (line g)))
      = box (next k v g b S) := by
  rw [pay5_box, pay6_box, pay7_box, pay8_line, pay9_line, pay10_line, pay11_line, pay12_line, pay14_mat, pay2_mat]

/-- At a head's first chunk the body starts from the block of the initial state. -/
theorem first (h0 : t.val % 32 = 0) (hq : iblk m c 0 t = box q) (hk : iblk m c 1 t = box k) (hv : iblk m c 2 t = box v)
    (hg : iblk m c 3 t = line g) (hb : iblk m c 4 t = line b) (hS : iblk m c 5 t = box S) :
    outsAt0 m c t.val t.isLt = (box (reads q k v g b S), box (next k v g b S)) := by
  rw [outsAt0_A m c t h0, hq, hk, hv, hg, hb, hS]
  refine congrArg₂ Prod.mk ?_ ?_
  · frame_out
    rw [pay3_self, stored_reads]
  · frame_out
    rw [pay3_self, stored_next]

/-- At a head's later chunks it starts from the state that the point before left. -/
theorem later (h0 : ¬t.val % 32 = 0) (hq : iblk m c 0 t = box q) (hk : iblk m c 1 t = box k) (hv : iblk m c 2 t = box v)
    (hg : iblk m c 3 t = line g) (hb : iblk m c 4 t = line b)
    (hS : (outsAt0 m c (t.val - 1) (Nat.lt_of_le_of_lt (Nat.sub_le _ _) t.isLt)).2 = box S) :
    outsAt0 m c t.val t.isLt = (box (reads q k v g b S), box (next k v g b S)) := by
  rw [outsAt0_B m c t h0, hq, hk, hv, hg, hb, hS]
  refine congrArg₂ Prod.mk ?_ ?_
  · frame_out
    rw [stored_reads]
  · frame_out
    rw [stored_next]

end Cert.Delta

end
-- ==== Proof.Heads.lean ====
/- The six arguments, head by head, as a recurrence over the real numbers. Both programs are read at these. -/
module

public import proofs.«01_k».proof.Proof.Recurrence
public import Idealize.ShloMosaic.Lib.Pointwise

@[expose] public section

noncomputable section

namespace Cert.Delta

open Idealize.ShloMosaic

/-- The six arguments of either program: the queries, the keys, the values, the log decays, the write strengths and the
    initial state, of 2 batches of 16 heads. -/
structure Args where
  q : FVec Ideal ⟨4, ![2, 16, 2048, 128]⟩ .f32
  k : FVec Ideal ⟨4, ![2, 16, 2048, 128]⟩ .f32
  v : FVec Ideal ⟨4, ![2, 16, 2048, 128]⟩ .f32
  g : FVec Ideal ⟨3, ![2, 16, 2048]⟩ .f32
  b : FVec Ideal ⟨3, ![2, 16, 2048]⟩ .f32
  s : FVec Ideal ⟨4, ![2, 16, 128, 128]⟩ .f32

/-- Every entry of the array is a real number. -/
def AllReal {S : Shape} (x : FVec Ideal S .f32) : Prop := ∀ j, ((EReal.toReal (x j) : ℝ) : EReal) = x j

/-- Every entry of every argument is a real number. -/
structure Args.Real (a : Args) : Prop where
  q : AllReal a.q
  k : AllReal a.k
  v : AllReal a.v
  g : AllReal a.g
  b : AllReal a.b
  s : AllReal a.s

/-- The recurrence of head `h` of batch `i`. Times past the end repeat the sequence, and nothing reads them. -/
def Args.head (a : Args) (i : Fin 2) (h : Fin 16) : Inputs 128 where
  q t d := EReal.toReal (a.q (ix4 i h (Fin.ofNat 2048 t) d))
  k t d := EReal.toReal (a.k (ix4 i h (Fin.ofNat 2048 t) d))
  v t d := EReal.toReal (a.v (ix4 i h (Fin.ofNat 2048 t) d))
  g t := EReal.toReal (a.g (ix3 i h (Fin.ofNat 2048 t)))
  b t := EReal.toReal (a.b (ix3 i h (Fin.ofNat 2048 t)))

/-- The initial state of head `h` of batch `i`. -/
def Args.start (a : Args) (i : Fin 2) (h : Fin 16) : Matrix (Fin 128) (Fin 128) ℝ :=
  fun d e => EReal.toReal (a.s (ix4 i h d e))

/-- What head `h` of batch `i` reads at time `t`. -/
def Args.out (a : Args) (i : Fin 2) (h : Fin 16) (t : ℕ) (d : Fin 128) : ℝ :=
  (a.head i h).read t ((a.head i h).state 0 (a.start i h) (t + 1)) d

/-- The state of head `h` of batch `i` after all 2048 steps. -/
def Args.final (a : Args) (i : Fin 2) (h : Fin 16) : Matrix (Fin 128) (Fin 128) ℝ :=
  (a.head i h).state 0 (a.start i h) 2048

/-- What every head reads at every time. -/
def Args.outs (a : Args) : FVec Ideal ⟨4, ![2, 16, 2048, 128]⟩ .f32 :=
  fun j => ((a.out (j 0) (j 1) (Fin.val (n := 2048) (j 2)) (j 3) : ℝ) : EReal)

/-- Every head's state after all steps. -/
def Args.finals (a : Args) : FVec Ideal ⟨4, ![2, 16, 128, 128]⟩ .f32 :=
  fun j => ((a.final (j 0) (j 1) (j 2) (j 3) : ℝ) : EReal)

/-- The result of either program: the reads and then the last states, as one list of numbers. -/
def Args.result (a : Args) : FVec Ideal ⟨1, ![8912896]⟩ .f32 :=
  concatenate ⟨1, ![8912896]⟩ 0 [⟨⟨1, ![8388608]⟩, shapeCast ⟨1, ![8388608]⟩ a.outs (by decide)⟩,
    ⟨⟨1, ![524288]⟩, shapeCast ⟨1, ![524288]⟩ a.finals (by decide)⟩]
    (show Shape.Concatenates [⟨1, ![8388608]⟩, ⟨1, ![524288]⟩] ⟨1, ![8912896]⟩ 0 by decide)

end Cert.Delta

end
-- ==== Proof.Blocks.lean ====
/- The blocks that the kernel's grid points are given: each is the real numbers of its head's recurrence, at the 64 times of
   its chunk. -/
module

public import proofs.«01_k».proof.Proof.Points
public import proofs.«01_k».proof.Proof.Heads

@[expose] public section

noncomputable section

namespace Cert.Delta

open Idealize.ShloMosaic Idealize.ShloMosaic.TcCoe Cert.KernelIdeal Cert.KernelIdeal.Gen

variable (m : (ℓ : Loc nD τ sig) → Buf (Elt Ideal) ℓ) (c : Dev nD)

/-- The kernel's six arguments. -/
def args : Args where
  q := m ((c.tc : Thread nD τ).loc main_arg0)
  k := m ((c.tc : Thread nD τ).loc main_arg1)
  v := m ((c.tc : Thread nD τ).loc main_arg2)
  g := m ((c.tc : Thread nD τ).loc main_arg3)
  b := m ((c.tc : Thread nD τ).loc main_arg4)
  s := m ((c.tc : Thread nD τ).loc main_arg5)

/-- The batch of a grid point. -/
def batch (t : Fin cfg0.N) : Fin 2 := Fin.ofNat 2 (t.val / 512)

/-- The head of a grid point. -/
def headOf (t : Fin cfg0.N) : Fin 16 := Fin.ofNat 16 (t.val / 32 % 16)

/-- The recurrence a grid point works on. -/
abbrev seqs (t : Fin cfg0.N) : Inputs 128 := (args m c).head (batch t) (headOf t)

/-- A grid point's number is below 1024. -/
theorem point_lt (t : Fin cfg0.N) : t.val < 1024 := N_0 ▸ t.isLt

/-- A grid point's batch, as a number. -/
theorem batch_val (t : Fin cfg0.N) : (batch t).val = t.val / 512 := Nat.mod_eq_of_lt (by have := point_lt t; omega)

/-- A grid point's head, as a number. -/
theorem headOf_val (t : Fin cfg0.N) : (headOf t).val = t.val / 32 % 16 := Nat.mod_eq_of_lt (by omega)

/-! ## Where a block lies in its array -/

/-- The block of queries at a grid point is the one of its head and chunk. -/
theorem idx0 : ∀ t : Fin cfg0.N, win0_0.index t = ![t.val / 32, t.val % 32, 0] := by decide +kernel

/-- The block of keys at a grid point is the one of its head and chunk. -/
theorem idx1 : ∀ t : Fin cfg0.N, win0_1.index t = ![t.val / 32, t.val % 32, 0] := by decide +kernel

/-- The block of values at a grid point is the one of its head and chunk. -/
theorem idx2 : ∀ t : Fin cfg0.N, win0_2.index t = ![t.val / 32, t.val % 32, 0] := by decide +kernel

/-- The block of decays at a grid point is the one of its head and chunk. -/
theorem idx3 : ∀ t : Fin cfg0.N, win0_3.index t = ![t.val / 32, t.val % 32, 0, 0] := by decide +kernel

/-- The block of write strengths at a grid point is the one of its head and chunk. -/
theorem idx4 : ∀ t : Fin cfg0.N, win0_4.index t = ![t.val / 32, t.val % 32, 0, 0] := by decide +kernel

/-- The block of initial states at a grid point is the one of its head. -/
theorem idx5 : ∀ t : Fin cfg0.N, win0_5.index t = ![t.val / 32, 0, 0] := by decide +kernel

/-- The head's number in an array of 32 heads. -/
def row32 (t : Fin cfg0.N) : Fin 32 := ⟨t.val / 32, by have := point_lt t; omega⟩

/-- The chunk's number. -/
def chunk (t : Fin cfg0.N) : Fin 32 := ⟨t.val % 32, by omega⟩

/-- The time of a chunk's step in an array of 2048 times. -/
def time (t : Fin cfg0.N) (j : Fin 64) : Fin 2048 := ⟨t.val % 32 * 64 + j, by omega⟩

/-- The batch, from the head counted over both batches. -/
theorem row32_div (t : Fin cfg0.N) (h) : (⟨(row32 t).val / 16, h⟩ : Fin 2) = batch t :=
  Fin.ext (by rw [batch_val]; show t.val / 32 / 16 = _; omega)

/-- The head within its batch, from the head counted over both batches. -/
theorem row32_mod (t : Fin cfg0.N) (h) : (⟨(row32 t).val % 16, h⟩ : Fin 16) = headOf t := Fin.ext (headOf_val t).symm

/-- A time of a chunk lies within the sequence. -/
theorem time_eq (t : Fin cfg0.N) (j : Fin 64) : Fin.ofNat 2048 (64 * (t.val % 32) + j) = time t j :=
  Fin.ext (by show (64 * (t.val % 32) + j.val) % 2048 = t.val % 32 * 64 + j; omega)

/-! ## The host's casts of the arguments -/

/-- The cast of a sequence of vectors, at an index. -/
theorem cast_vectors (x : FVec Ideal S2x16x2048x128 .f32) (t : Fin cfg0.N) (j : Fin 64) (d : Fin 128) :
    shapeCast S32x2048x128 x shapeCasts_S2x16x2048x128_S32x2048x128 (ix3 (row32 t) (time t j) d)
      = x (ix4 (batch t) (headOf t) (Fin.ofNat 2048 (64 * (t.val % 32) + j)) d) := by
  pointwise
  rw [row32_div, row32_mod, time_eq]

/-- The cast of a sequence of numbers, at an index. -/
theorem cast_numbers (x : FVec Ideal S2x16x2048 .f32) (t : Fin cfg0.N) (j : Fin 64) :
    shapeCast S32x32x1x64 x shapeCasts_S2x16x2048_S32x32x1x64 (ix4 (row32 t) (chunk t) 0 j)
      = x (ix3 (batch t) (headOf t) (Fin.ofNat 2048 (64 * (t.val % 32) + j))) := by
  pointwise
  rw [row32_div, row32_mod, time_eq]
  rfl

/-- The cast of the states, at an index. -/
theorem cast_states (x : FVec Ideal S2x16x128x128 .f32) (t : Fin cfg0.N) (a d : Fin 128) :
    shapeCast S32x128x128 x shapeCasts_S2x16x128x128_S32x128x128 (ix3 (row32 t) a d)
      = x (ix4 (batch t) (headOf t) a d) := by
  pointwise
  rw [row32_div, row32_mod]

/-- The queries as the kernel gets them: 32 heads in one row. -/
theorem entry_q : V m c main_v0 = shapeCast S32x2048x128 (args m c).q shapeCasts_S2x16x2048x128_S32x2048x128 := by
  entry_read; rfl

/-- The keys as the kernel gets them: 32 heads in one row. -/
theorem entry_k : V m c main_v1 = shapeCast S32x2048x128 (args m c).k shapeCasts_S2x16x2048x128_S32x2048x128 := by
  entry_read; rfl

/-- The values as the kernel gets them: 32 heads in one row. -/
theorem entry_v : V m c main_v2 = shapeCast S32x2048x128 (args m c).v shapeCasts_S2x16x2048x128_S32x2048x128 := by
  entry_read; rfl

/-- The decays as the kernel gets them: 32 heads in one row, cut into chunks. -/
theorem entry_g : V m c main_v3 = shapeCast S32x32x1x64 (args m c).g shapeCasts_S2x16x2048_S32x32x1x64 := by
  entry_read; rfl

/-- The write strengths as the kernel gets them: 32 heads in one row, cut into chunks. -/
theorem entry_b : V m c main_v4 = shapeCast S32x32x1x64 (args m c).b shapeCasts_S2x16x2048_S32x32x1x64 := by
  entry_read; rfl

/-- The initial states as the kernel gets them: 32 heads in one row. -/
theorem entry_s : V m c main_v5 = shapeCast S32x128x128 (args m c).s shapeCasts_S2x16x128x128_S32x128x128 := by
  entry_read; rfl

/-! ## The blocks -/

section Blocks

variable (t : Fin cfg0.N)

/-- The block of queries. -/
theorem block_q (h : AllReal (args m c).q) :
    iblk m c 0 t = box (rows (seqs m c t).q (64 * (t.val % 32))) := by
  funext (y : S1x64x128.Idx)
  idx_vars y
  blk_simp [iblk]
  have e : (win0_0.blk t).view.emb (ix3 y0 y1 y2) = ix3 (row32 t) (time t y1) y2 := by
    blk_ext [idx0 t, row32, time]
  rw [entry_q, e, cast_vectors]
  exact (h _).symm

/-- The block of keys. -/
theorem block_k (h : AllReal (args m c).k) :
    iblk m c 1 t = box (rows (seqs m c t).k (64 * (t.val % 32))) := by
  funext (y : S1x64x128.Idx)
  idx_vars y
  blk_simp [iblk]
  have e : (win0_1.blk t).view.emb (ix3 y0 y1 y2) = ix3 (row32 t) (time t y1) y2 := by
    blk_ext [idx1 t, row32, time]
  rw [entry_k, e, cast_vectors]
  exact (h _).symm

/-- The block of values. -/
theorem block_v (h : AllReal (args m c).v) :
    iblk m c 2 t = box (rows (seqs m c t).v (64 * (t.val % 32))) := by
  funext (y : S1x64x128.Idx)
  idx_vars y
  blk_simp [iblk]
  have e : (win0_2.blk t).view.emb (ix3 y0 y1 y2) = ix3 (row32 t) (time t y1) y2 := by
    blk_ext [idx2 t, row32, time]
  rw [entry_v, e, cast_vectors]
  exact (h _).symm

/-- The block of log decays. -/
theorem block_g (h : AllReal (args m c).g) :
    iblk m c 3 t = line (row (seqs m c t).g (64 * (t.val % 32))) := by
  funext (y : S1x1x1x64.Idx)
  idx_vars y
  blk_simp [iblk]
  have e : (win0_3.blk t).view.emb (ix4 y0 y1 y2 y3) = ix4 (row32 t) (chunk t) 0 y3 := by
    blk_ext [idx3 t, row32, chunk]
  rw [entry_g, e, cast_numbers]
  exact (h _).symm

/-- The block of write strengths. -/
theorem block_b (h : AllReal (args m c).b) :
    iblk m c 4 t = line (row (seqs m c t).b (64 * (t.val % 32))) := by
  funext (y : S1x1x1x64.Idx)
  idx_vars y
  blk_simp [iblk]
  have e : (win0_4.blk t).view.emb (ix4 y0 y1 y2 y3) = ix4 (row32 t) (chunk t) 0 y3 := by
    blk_ext [idx4 t, row32, chunk]
  rw [entry_b, e, cast_numbers]
  exact (h _).symm

/-- The block of the initial state. -/
theorem block_s (h : AllReal (args m c).s) :
    iblk m c 5 t = box ((args m c).start (batch t) (headOf t)) := by
  funext (y : S1x128x128.Idx)
  idx_vars y
  blk_simp [iblk]
  have e : (win0_5.blk t).view.emb (ix3 y0 y1 y2) = ix3 (row32 t) y1 y2 := by
    blk_ext [idx5 t, row32]
  rw [entry_s, e, cast_states]
  exact (h _).symm

end Blocks

/-! ## What the output blocks hold -/

/-- The state before a grid point's chunk. -/
def before (t : Fin cfg0.N) : Matrix (Fin 128) (Fin 128) ℝ :=
  (seqs m c t).state 0 ((args m c).start (batch t) (headOf t)) (64 * (t.val % 32))

/-- The chunk's reads and next state, from the state before the chunk, are the head's. -/
theorem chunk_eq (t : Fin cfg0.N) (t₀ : ℕ) (ht : t₀ = 64 * (t.val % 32)) :
    (box (reads (rows (seqs m c t).q t₀) (rows (seqs m c t).k t₀) (rows (seqs m c t).v t₀) (row (seqs m c t).g t₀)
        (row (seqs m c t).b t₀) (before m c t)),
      box (next (rows (seqs m c t).k t₀) (rows (seqs m c t).v t₀) (row (seqs m c t).g t₀) (row (seqs m c t).b t₀)
        (before m c t)))
    = ((box (.of fun j d => (args m c).out (batch t) (headOf t) (t₀ + j) d) : Vec Ideal S1x64x128 .f32),
      (box ((seqs m c t).state 0 ((args m c).start (batch t) (headOf t)) (t₀ + 64)) : Vec Ideal S1x128x128 .f32)) := by
  have hs : ∀ n, (seqs m c t).state t₀ (before m c t) n
      = (seqs m c t).state 0 ((args m c).start (batch t) (headOf t)) (t₀ + n) := fun n => by
    rw [Inputs.state_add, Nat.zero_add, before, ht]
  refine congrArg₂ Prod.mk (congrArg box ?_) (congrArg box ?_)
  · ext j d
    rw [reads_eq, hs]
    rfl
  · rw [next_eq, hs]

/-- After a grid point its two output blocks hold the chunk's reads and the head's state after the chunk. -/
theorem outs (h : (args m c).Real) (n : ℕ) (t : Fin cfg0.N) (ht : t.val = n) :
    outsAt0 m c t.val t.isLt = (box (.of fun j d => (args m c).out (batch t) (headOf t) (64 * (t.val % 32) + j) d),
      box ((seqs m c t).state 0 ((args m c).start (batch t) (headOf t)) (64 * (t.val % 32) + 64))) := by
  induction n generalizing t with
  | zero =>
    have h0 : t.val % 32 = 0 := by omega
    refine (first m c t _ _ _ _ _ (before m c t) h0 (block_q m c t h.q) (block_k m c t h.k) (block_v m c t h.v)
      (block_g m c t h.g) (block_b m c t h.b) ((block_s m c t h.s).trans ?_)).trans (chunk_eq m c t _ rfl)
    rw [before, h0]; rfl
  | succ n ih =>
    by_cases h0 : t.val % 32 = 0
    · refine (first m c t _ _ _ _ _ (before m c t) h0 (block_q m c t h.q) (block_k m c t h.k) (block_v m c t h.v)
        (block_g m c t h.g) (block_b m c t h.b) ((block_s m c t h.s).trans ?_)).trans (chunk_eq m c t _ rfl)
      rw [before, h0]; rfl
    · have hlt := t.isLt
      have e := ih ⟨t.val - 1, by omega⟩ (by show t.val - 1 = n; omega)
      have hb : batch (⟨t.val - 1, by omega⟩ : Fin cfg0.N) = batch t := Fin.ext (by
        rw [batch_val, batch_val]; show (t.val - 1) / 512 = _; omega)
      have hh : headOf (⟨t.val - 1, by omega⟩ : Fin cfg0.N) = headOf t := Fin.ext (by
        rw [headOf_val, headOf_val]; show (t.val - 1) / 32 % 16 = _; omega)
      refine (later m c t _ _ _ _ _ (before m c t) h0 (block_q m c t h.q) (block_k m c t h.k) (block_v m c t h.v)
        (block_g m c t h.g) (block_b m c t h.b) ((congrArg Prod.snd e).trans ?_)).trans (chunk_eq m c t _ rfl)
      have ht' : 64 * ((t.val - 1) % 32) + 64 = 64 * (t.val % 32) := by omega
      show box _ = box _
      rw [before, seqs, seqs, hb, hh]
      exact congrArg (fun n => box ((seqs m c t).state 0 ((args m c).start (batch t) (headOf t)) n)) ht'

end Cert.Delta

end
-- ==== Proof.Arrays.lean ====
/- The kernel's two result arrays, put together from its grid points' blocks, and the one list that its last three
   operations make of them. -/
module

public import proofs.«01_k».proof.Proof.Blocks
public import Idealize.ShloMosaic.Lib.Pipeline.Covers
public import Idealize.ShloMosaic.Lib.Claim

@[expose] public section

noncomputable section

namespace Cert.Delta

open Idealize.ShloMosaic Idealize.ShloMosaic.TcCoe Idealize.SL.Sem Cert.KernelIdeal Cert.KernelIdeal.Gen

variable (m : (ℓ : Loc nD τ sig) → Buf (Elt Ideal) ℓ) (c : Dev nD)

/-- The block of reads that a grid point leaves is the one of its head and chunk. -/
theorem idx6 : ∀ t : Fin cfg0.N, win0_6.index t = ![t.val / 32, t.val % 32, 0] := by decide +kernel

/-- The block of states that a grid point leaves is the one of its head. -/
theorem idx7 : ∀ t : Fin cfg0.N, win0_7.index t = ![t.val / 32, 0, 0] := by decide +kernel

/-- The array of reads, 32 heads in one row. -/
def outs32 (a : Args) : FVec Ideal S32x2048x128 .f32 := shapeCast S32x2048x128 a.outs shapeCasts_S2x16x2048x128_S32x2048x128

/-- The array of last states, 32 heads in one row. -/
def finals32 (a : Args) : FVec Ideal S32x128x128 .f32 := shapeCast S32x128x128 a.finals shapeCasts_S2x16x128x128_S32x128x128

/-- After all grid points the first array holds the recurrence's reads. -/
theorem array_outs (h : (args m c).Real) : (dats m 0 c).arrAt 6 (cfgs 0).N = outs32 (args m c) := by
  refine (dats m 0 c).arrAt_eq_of_covers 6 _ (by decide +kernel) fun t hf y => ?_
  change S1x64x128.Idx at y
  idx_vars y
  blk_simp
  have e : (win0_6.blk t).view.emb (ix3 y0 y1 y2) = ix3 (row32 t) (time t y1) y2 := by
    blk_ext [idx6 t, row32, time]
  rw [after0_6, outs m c h t.val t rfl, e, outs32, cast_vectors, time_eq]
  show (((args m c).out (batch t) (headOf t) (64 * (t.val % 32) + y1.val) y2 : ℝ) : EReal)
    = (((args m c).out (batch t) (headOf t) (t.val % 32 * 64 + y1.val) y2 : ℝ) : EReal)
  rw [Nat.mul_comm]

/-- After all grid points the second array holds the recurrence's last states. -/
theorem array_finals (h : (args m c).Real) : (dats m 0 c).arrAt 7 (cfgs 0).N = finals32 (args m c) := by
  refine (dats m 0 c).arrAt_eq_of_covers 7 _ (by decide +kernel) fun t hf y => ?_
  change S1x128x128.Idx at y
  idx_vars y
  blk_simp
  have e : (win0_7.blk t).view.emb (ix3 y0 y1 y2) = ix3 (row32 t) y1 y2 := by
    blk_ext [idx7 t, row32]
  rw [after0_7, outs m c h t.val t rfl, e, finals32, cast_states, (flush0_7 t).mp hf]
  rfl

/-- What the host's last three operations leave in the result, whatever they find. -/
theorem tail_read (W : Valuation τ sig (Elt Ideal)) :
    StableHlo.after [(hostOps1 : List (HloOp τ sig (Elt Ideal)))].flatten W (Proc.devRef .tc main_v9)
      = concatenate S8912896 0
          [⟨S8388608, shapeCast S8388608 (W (Proc.devRef .tc main_v6_0)) shapeCasts_S32x2048x128_S8388608⟩,
            ⟨S524288, shapeCast S524288 (W (Proc.devRef .tc main_v6_1)) shapeCasts_S32x128x128_S524288⟩]
          concatenates_S8388608_S524288_S8912896_d0 := by
  show StableHlo.after (hostOps1 : List (HloOp τ sig (Elt Ideal))) W (Proc.devRef .tc main_v9) = _
  after_results
  rfl

/-- The array of 32 heads as one list is the array of 2 by 16 heads as one list. -/
theorem outs32_list (a : Args) (h) :
    shapeCast S8388608 (outs32 a) shapeCasts_S32x2048x128_S8388608 = shapeCast ⟨1, ![8388608]⟩ a.outs h := by
  funext j; idx_vars j; pointwise [outs32]
  exact congrArg a.outs (congrArg (fun i => ix4 i _ _ _) (Fin.ext (by show j0.val / 262144 / 16 = j0.val / 4194304; omega)))

/-- The states of 32 heads as one list are the states of 2 by 16 heads as one list. -/
theorem finals32_list (a : Args) (h) :
    shapeCast S524288 (finals32 a) shapeCasts_S32x128x128_S524288 = shapeCast ⟨1, ![524288]⟩ a.finals h := by
  funext j; idx_vars j; pointwise [finals32]
  exact congrArg a.finals (congrArg (fun i => ix4 i _ _ _) (Fin.ext (by show j0.val / 16384 / 16 = j0.val / 262144; omega)))

/-- A run of the kernel leaves the recurrence's reads and final states in the result, as one list. -/
theorem kernel_value (ρ : Dev nD → PrngReg) (h : ∀ c, (args m c).Real) :
    θ_run (defs (F := Ideal)) (onTc (τ := τ) (main (F := Ideal))) ⟨m, fun _ => 0, ρ⟩ fun r => ∀ c : Dev nD,
      r.2.mem ((c.tc : Thread nD τ).loc main_v9) = (args m c).result := by
  run_from run_main m ρ
  unfold Pipeline.afterTail₀
  rw [tail_read]
  have h6 : _ = _ := (Pipeline.withArrays_arr (cfgs 0).spec winFacts0.arr_inj c (V0 m c)
    (fun w => (dats m 0 c).arrAt w (cfgs 0).N) 6).trans (array_outs m c (h c))
  have h7 : _ = _ := (Pipeline.withArrays_arr (cfgs 0).spec winFacts0.arr_inj c (V0 m c)
    (fun w => (dats m 0 c).arrAt w (cfgs 0).N) 7).trans (array_finals m c (h c))
  erw [h6, h7]
  rw [outs32_list, finals32_list]
  rfl

/-- A run of the kernel leaves the recurrence's reads and final states in the result, and its arguments unchanged. -/
theorem kernel_run (ρ : Dev nD → PrngReg) (h : ∀ c, (args m c).Real) :
    θ_run (defs (F := Ideal)) (onTc (τ := τ) (main (F := Ideal))) ⟨m, fun _ => 0, ρ⟩ fun r => ∀ c : Dev nD,
      r.2.mem ((c.tc : Thread nD τ).loc main_v9) = (args m c).result
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5) :=
  (θ_run defs _ _).mono (fun _ r c => ⟨r.1 c, r.2.1 c⟩) (θ_run_and (kernel_value m ρ h) (Gen.frame m ρ))

end Cert.Delta

end
-- ==== Proof.Loop.lean ====
/- The reference's loop: what its carried arrays hold before each step, and that one step advances the recurrence. -/
module

public import proofs.«01_k».proof.Proof.Heads
public import proofs.«01_k».proof.Proof.RealArrays
public import proofs.«01_k».proof.Proof.Gen.ReferenceIdeal.Run
public import Idealize.ShloMosaic.Lib.DynamicIndex

@[expose] public section

noncomputable section

namespace Cert.Delta

open Idealize.ShloMosaic Idealize.ShloMosaic.TcCoe Cert.ReferenceIdeal Cert.ReferenceIdeal.Gen Cert.ReferenceIdeal.Value

/-- The loop's counter, at step `n`. -/
abbrev counter (n : ℕ) : IVec S_ 32 := fun _ => BitVec.ofNat 32 n

/-- The counter read as a start: it is the step's number. -/
theorem counter_toInt (n : ℕ) (hn : n < 2048) (i : S_.Idx) : (counter n i).toInt = (n : ℤ) :=
  toInt_ofNat_of_lt (by omega)

/-- The starts of a rank-4 array's row are the step's number and zeros. -/
theorem starts4 (n : ℕ) (hn : n < 2048) (k : Fin 4) :
    (((![counter n, constantI S_ 32 0#32, constantI S_ 32 0#32, constantI S_ 32 0#32] : Fin 4 → (⟨S_, .i32⟩ : BufTy).Contents (Elt Ideal))) k (Shape.Idx.first h_S_)).toInt
      = ((![n, 0, 0, 0] : Fin 4 → ℕ) k : ℤ) := by
  match k with
  | 0 => exact counter_toInt n hn (Shape.Idx.first h_S_)
  | 1 => rfl
  | 2 => rfl
  | 3 => rfl

/-- The starts of a rank-3 array's row are the step's number and zeros. -/
theorem starts3 (n : ℕ) (hn : n < 2048) (k : Fin 3) :
    (((![counter n, constantI S_ 32 0#32, constantI S_ 32 0#32] : Fin 3 → (⟨S_, .i32⟩ : BufTy).Contents (Elt Ideal))) k (Shape.Idx.first h_S_)).toInt
      = ((![n, 0, 0] : Fin 3 → ℕ) k : ℤ) := by
  match k with
  | 0 => exact counter_toInt n hn (Shape.Idx.first h_S_)
  | 1 => rfl
  | 2 => rfl

/-- The row of a rank-4 time-leading array that the loop reads at a counter. -/
def slice4 (x : FVec Ideal S2048x2x16x128 .f32) (w : IVec S_ 32) : FVec Ideal S2x16x128 .f32 :=
  shapeCast S2x16x128 (Host.dynamicSlice S1x2x16x128 x
    (fun k => (((![w, constantI S_ 32 0#32, constantI S_ 32 0#32, constantI S_ 32 0#32] : Fin 4 → (⟨S_, .i32⟩ : BufTy).Contents (Elt Ideal))) k (Shape.Idx.first h_S_)).toInt) sliceFits_S2048x2x16x128_S1x2x16x128) shapeCasts_S1x2x16x128_S2x16x128

/-- The row of a rank-3 time-leading array that the loop reads at a counter. -/
def slice3 (x : FVec Ideal S2048x2x16 .f32) (w : IVec S_ 32) : FVec Ideal S2x16 .f32 :=
  shapeCast S2x16 (Host.dynamicSlice S1x2x16 x
    (fun k => (((![w, constantI S_ 32 0#32, constantI S_ 32 0#32] : Fin 3 → (⟨S_, .i32⟩ : BufTy).Contents (Elt Ideal))) k (Shape.Idx.first h_S_)).toInt) sliceFits_S2048x2x16_S1x2x16) shapeCasts_S1x2x16_S2x16

/-- One row of a rank-4 time-leading array, read at the counter. -/
theorem row4 (x : FVec Ideal S2048x2x16x128 .f32) (n : ℕ) (hn : n < 2048) (i : Fin 2) (h : Fin 16) (d : Fin 128) :
    slice4 x (counter n) (ix3 i h d)
      = x (ix4 (Fin.ofNat 2048 n) i h d) := by
  unfold slice4
  rw [Host.dynamicSlice_eq_extractStridedSlice S1x2x16x128 x _ ![n, 0, 0, 0] _
    ⟨rfl, fun a => by fin_cases a <;> simp <;> omega⟩
    (starts4 n hn)]
  pointwise
  exact congrArg (fun t => x (ix4 t i h d)) (Fin.ext (Nat.mod_eq_of_lt hn).symm)

/-- One row of a rank-3 time-leading array, read at the counter. -/
theorem row3 (x : FVec Ideal S2048x2x16 .f32) (n : ℕ) (hn : n < 2048) (i : Fin 2) (h : Fin 16) :
    slice3 x (counter n) (ix2 i h)
      = x (ix3 (Fin.ofNat 2048 n) i h) := by
  unfold slice3
  rw [Host.dynamicSlice_eq_extractStridedSlice S1x2x16 x _ ![n, 0, 0] _
    ⟨rfl, fun a => by fin_cases a <;> simp <;> omega⟩
    (starts3 n hn)]
  pointwise
  exact congrArg (fun t => x (ix3 t i h)) (Fin.ext (Nat.mod_eq_of_lt hn).symm)

/-- The loop's product of a vector with the state, of each head. -/
def along (l : FVec Ideal S2x16x128 .f32) (r : FVec Ideal S2x16x128x128 .f32) : FVec Ideal S2x16x128 .f32 :=
  Host.dotGeneral (φ₁ := .f32) (φ₂ := .f32) dot_S2x16x128_S2x16x128x128_S2x16x128_2_2_n_3_01_01 none l r

/-- The product of a vector with the state, where both are real numbers. -/
theorem along_real {l : FVec Ideal S2x16x128 .f32} {r : FVec Ideal S2x16x128x128 .f32} {i : Fin 2} {h : Fin 16} {d : Fin 128}
    {f g : Fin 128 → ℝ} (hl : ∀ x, l (ix3 i h x) = ((f x : ℝ) : EReal)) (hr : ∀ x, r (ix4 i h x d) = ((g x : ℝ) : EReal)) :
    along l r (ix3 i h d) = ((∑ x, f x * g x : ℝ) : EReal) := by
  unfold along
  pointwise
  exact (Finset.sum_congr rfl fun x _ => congrArg₂ (· * ·) (hl x) (hr x)).trans (coe_sum_mul f g)

/-- The row written back into the outputs, at an index. -/
theorem update_row (x : FVec Ideal S2048x2x16x128 .f32) (u : FVec Ideal S2x16x128 .f32) (n : ℕ) (hn : n < 2048)
    (t : Fin 2048) (i : Fin 2) (h : Fin 16) (d : Fin 128) :
    Host.dynamicUpdateSlice x (broadcastInDim S1x2x16x128 ![1, 2, 3] bcast_S2x16x128_S1x2x16x128_1_2_3 u)
      (fun k => (((![counter n, constantI S_ 32 0#32, constantI S_ 32 0#32, constantI S_ 32 0#32] : Fin 4 → (⟨S_, .i32⟩ : BufTy).Contents (Elt Ideal))) k (Shape.Idx.first h_S_)).toInt) updateFits_S2048x2x16x128_S1x2x16x128 (ix4 t i h d)
      = if t.val = n then u (ix3 i h d) else x (ix4 t i h d) := by
  refine (congrFun (Host.dynamicUpdateSlice_eq_updateSlice (u := S1x2x16x128) x
    (broadcastInDim S1x2x16x128 ![1, 2, 3] bcast_S2x16x128_S1x2x16x128_1_2_3 u) _
    updateFits_S2048x2x16x128_S1x2x16x128 ![n, 0, 0, 0] (fun a => by
      refine (congrArg (fun z : ℤ => (min (max z 0) _).toNat) (starts4 n hn a)).trans ?_
      match a with
      | 0 => show (min (max ((n : ℕ) : ℤ) 0) ((2048 - 1 : ℕ) : ℤ)).toNat = n; omega
      | 1 => rfl
      | 2 => rfl
      | 3 => rfl) ⟨rfl, fun a => by fin_cases a <;> simp <;> omega⟩) _).trans ?_
  pointwise
  by_cases e : t.val = n
  · rw [dif_pos (by omega), if_pos e]
  · rw [dif_neg (by omega), if_neg e]

/-- What the loop carries before step `n`: the sequences, time leading; the counter; every head's state after `n` steps;
    and the reads of the steps taken. -/
structure At (a : Args) (n : ℕ) (V : Valuation τ sig (Elt Ideal)) : Prop where
  q : V (Proc.devRef .tc main_v6_0) = transpose S2048x2x16x128 [2, 0, 1, 3] a.q transposes_S2x16x2048x128_S2048x2x16x128_2_0_1_3
  k : V (Proc.devRef .tc main_v6_1) = transpose S2048x2x16x128 [2, 0, 1, 3] a.k transposes_S2x16x2048x128_S2048x2x16x128_2_0_1_3
  v : V (Proc.devRef .tc main_v6_2) = transpose S2048x2x16x128 [2, 0, 1, 3] a.v transposes_S2x16x2048x128_S2048x2x16x128_2_0_1_3
  g : V (Proc.devRef .tc main_v6_3) = transpose S2048x2x16 [2, 0, 1] a.g transposes_S2x16x2048_S2048x2x16_2_0_1
  b : V (Proc.devRef .tc main_v6_4) = transpose S2048x2x16 [2, 0, 1] a.b transposes_S2x16x2048_S2048x2x16_2_0_1
  count : V (Proc.devRef .tc main_v6_5) = counter n
  state : ∀ i h d e, (V (Proc.devRef .tc main_v6_6) : FVec Ideal S2x16x128x128 .f32) (ix4 i h d e)
    = (((a.head i h).state 0 (a.start i h) n d e : ℝ) : EReal)
  outs : ∀ (t : Fin 2048) i h d, t.val < n →
    (V (Proc.devRef .tc main_v6_7) : FVec Ideal S2048x2x16x128 .f32) (ix4 t i h d) = ((a.out i h t.val d : ℝ) : EReal)

section Step

variable {a : Args} {n : ℕ} {V : Valuation τ sig (Elt Ideal)}

/-- A sequence's row at step `n`. -/
theorem vector_at (x : FVec Ideal S2x16x2048x128 .f32) (hx : AllReal x) (hn : n < 2048) (i : Fin 2) (h : Fin 16) (d : Fin 128) :
    slice4 (transpose S2048x2x16x128 [2, 0, 1, 3] x transposes_S2x16x2048x128_S2048x2x16x128_2_0_1_3) (counter n) (ix3 i h d)
      = ((EReal.toReal (x (ix4 i h (Fin.ofNat 2048 n) d)) : ℝ) : EReal) := by
  rw [row4 _ n hn]
  pointwise
  exact (hx _).symm

/-- A sequence's number at step `n`. -/
theorem number_at (x : FVec Ideal S2x16x2048 .f32) (hx : AllReal x) (hn : n < 2048) (i : Fin 2) (h : Fin 16) :
    slice3 (transpose S2048x2x16 [2, 0, 1] x transposes_S2x16x2048_S2048x2x16_2_0_1) (counter n) (ix2 i h)
      = ((EReal.toReal (x (ix3 i h (Fin.ofNat 2048 n))) : ℝ) : EReal) := by
  rw [row3 _ n hn]
  pointwise
  exact (hx _).symm

/-- The key of step `n`. -/
theorem key_at (r : a.Real) (hn : n < 2048) (H : At a n V) (i : Fin 2) (h : Fin 16) (d : Fin 128) :
    (res_main_while0b_v12 V : FVec Ideal S2x16x128 .f32) (ix3 i h d) = (((a.head i h).k n d : ℝ) : EReal) := by
  rw [show res_main_while0b_v12 V = slice4 (V (Proc.devRef .tc main_v6_1)) (V (Proc.devRef .tc main_v6_5)) from rfl,
    H.k, H.count]
  exact vector_at a.k r.k hn i h d

/-- The decayed state of step `n`. -/
theorem decayed_at (r : a.Real) (hn : n < 2048) (H : At a n V) (i : Fin 2) (h : Fin 16) (d e : Fin 128) :
    (res_main_while0b_v19 V : FVec Ideal S2x16x128x128 .f32) (ix4 i h d e)
      = (((a.head i h).state 0 (a.start i h) n d e * Real.exp ((a.head i h).g n) : ℝ) : EReal) := by
  rw [show res_main_while0b_v19 V = mulf (V (Proc.devRef .tc main_v6_6) : FVec Ideal S2x16x128x128 .f32)
    (broadcastInDim S2x16x128x128 ![0, 1, 2, 3] bcast_S2x16x1x1_S2x16x128x128_0_1_2_3
      (broadcastInDim S2x16x1x1 ![0, 1] bcast_S2x16_S2x16x1x1_0_1
        (Host.exp (slice3 (V (Proc.devRef .tc main_v6_3)) (V (Proc.devRef .tc main_v6_5)))))) from rfl, H.g, H.count]
  pointwise
  rw [number_at a.g r.g hn, H.state]
  exact (congrArg _ (Ideal.exp_coe _)).trans (EReal.coe_mul _ _).symm

/-- The state after step `n`. -/
theorem state_at (r : a.Real) (hn : n < 2048) (H : At a n V) (i : Fin 2) (h : Fin 16) (d e : Fin 128) :
    (res_main_while0b_v30 V : FVec Ideal S2x16x128x128 .f32) (ix4 i h d e)
      = (((a.head i h).state 0 (a.start i h) (n + 1) d e : ℝ) : EReal) := by
  rw [show res_main_while0b_v30 V = addf (res_main_while0b_v19 V : FVec Ideal S2x16x128x128 .f32)
    (mulf (broadcastInDim S2x16x128x128 ![0, 1, 2, 3] bcast_S2x16x128x1_S2x16x128x128_0_1_2_3
        (broadcastInDim S2x16x128x1 ![0, 1, 2] bcast_S2x16x128_S2x16x128x1_0_1_2 (res_main_while0b_v12 V : FVec Ideal S2x16x128 .f32)))
      (broadcastInDim S2x16x128x128 ![0, 1, 2, 3] bcast_S2x16x1x128_S2x16x128x128_0_1_2_3
        (broadcastInDim S2x16x1x128 ![0, 1, 3] bcast_S2x16x128_S2x16x1x128_0_1_3
          (mulf (subf (slice4 (V (Proc.devRef .tc main_v6_2)) (V (Proc.devRef .tc main_v6_5)))
              (along (res_main_while0b_v12 V) (res_main_while0b_v19 V)))
            (broadcastInDim S2x16x128 ![0, 1, 2] bcast_S2x16x1_S2x16x128_0_1_2
              (broadcastInDim S2x16x1 ![0, 1] bcast_S2x16_S2x16x1_0_1
                (slice3 (V (Proc.devRef .tc main_v6_4)) (V (Proc.devRef .tc main_v6_5))))))))) from rfl, H.v, H.b, H.count]
  pointwise
  rw [number_at a.b r.b hn, vector_at a.v r.v hn, decayed_at r hn H, key_at r hn H,
    along_real (key_at r hn H i h) (fun x => decayed_at r hn H i h x e),
    ← EReal.coe_sub, ← EReal.coe_mul, ← EReal.coe_mul, ← EReal.coe_add]
  refine congrArg _ ?_
  show _ = (a.head i h).step (0 + n) _ d e
  rw [Nat.zero_add]
  rfl

/-- The read of step `n`. -/
theorem read_at (r : a.Real) (hn : n < 2048) (H : At a n V) (i : Fin 2) (h : Fin 16) (d : Fin 128) :
    along (slice4 (V (Proc.devRef .tc main_v6_0)) (V (Proc.devRef .tc main_v6_5))) (res_main_while0b_v30 V) (ix3 i h d) = ((a.out i h n d : ℝ) : EReal) := by
  rw [H.q, H.count]
  exact along_real (vector_at a.q r.q hn i h) (fun x => state_at r hn H i h x d)

/-- One step of the loop advances what it carries by one step of the recurrence. -/
theorem At.step (r : a.Real) (hn : n < 2048) (H : At a n V) : At a (n + 1) (STEP V) where
  q := (STEP_main_v6_0 V).trans H.q
  k := (STEP_main_v6_1 V).trans H.k
  v := (STEP_main_v6_2 V).trans H.v
  g := (STEP_main_v6_3 V).trans H.g
  b := (STEP_main_v6_4 V).trans H.b
  count := by
    rw [STEP_main_v6_5]
    unfold step_main_v6_5
    rw [H.count]
    funext j
    exact BitVec.eq_of_toNat_eq (by simp [addi, constantI, IntOp.addi])
  state i h d e := (congrFun (STEP_main_v6_6 V) (ix4 i h d e)).trans (state_at r hn H i h d e)
  outs t i h d ht := by
    refine (congrFun (STEP_main_v6_7 V) (ix4 t i h d)).trans ?_
    have e : step_main_v6_7 V = Host.dynamicUpdateSlice (V (Proc.devRef .tc main_v6_7) : FVec Ideal S2048x2x16x128 .f32)
        (broadcastInDim S1x2x16x128 ![1, 2, 3] bcast_S2x16x128_S1x2x16x128_1_2_3
          (along (slice4 (V (Proc.devRef .tc main_v6_0)) (V (Proc.devRef .tc main_v6_5))) (res_main_while0b_v30 V)))
        (fun k => (((![V (Proc.devRef .tc main_v6_5), constantI S_ 32 0#32, constantI S_ 32 0#32, constantI S_ 32 0#32] :
          Fin 4 → (⟨S_, .i32⟩ : BufTy).Contents (Elt Ideal))) k (Shape.Idx.first h_S_)).toInt)
        updateFits_S2048x2x16x128_S1x2x16x128 := rfl
    generalize hu : along (slice4 (V (Proc.devRef .tc main_v6_0)) (V (Proc.devRef .tc main_v6_5)))
      (res_main_while0b_v30 V) = u at e
    rw [e, H.count]
    refine (update_row _ u n hn t i h d).trans ?_
    split_ifs with et
    · rw [← hu, read_at r hn H, et]
    · exact H.outs t i h d (by omega)

end Step

/-- Iterating the step from the entry: what the loop carries after `n` steps. -/
theorem At.iterate {a : Args} (r : a.Real) {V : Valuation τ sig (Elt Ideal)} (H : At a 0 V) (n : ℕ) (hn : n ≤ 2048) :
    At a n (STEP^[n] V) := by
  induction n with
  | zero => exact H
  | succ n ih =>
    rw [Function.iterate_succ_apply']
    exact (ih (by omega)).step r (by omega)

end Cert.Delta

end
-- ==== Proof.Reference.lean ====
/- What the reference leaves in its result: every head's reads, and every head's last state. -/
module

public import proofs.«01_k».proof.Proof.Loop

@[expose] public section

noncomputable section

namespace Cert.Delta

open Idealize.ShloMosaic Idealize.ShloMosaic.TcCoe Cert.ReferenceIdeal Cert.ReferenceIdeal.Gen Cert.ReferenceIdeal.Value
open Idealize.ShloMosaic.StableHlo

/-- After all its steps, what the reference makes of what its loop carries is the recurrence's result. -/
theorem out_eq {a : Args} {V : Valuation τ sig (Elt Ideal)} (H : At a 2048 V) : out_main_v10 V = a.result := by
  have hs : (V (Proc.devRef .tc main_v6_6) : FVec Ideal S2x16x128x128 .f32) = a.finals := by
    funext (j : S2x16x128x128.Idx); idx_vars j; exact H.state _ _ _ _
  have ho : transpose S2x16x2048x128 [1, 2, 0, 3] (V (Proc.devRef .tc main_v6_7) : FVec Ideal S2048x2x16x128 .f32)
      transposes_S2048x2x16x128_S2x16x2048x128_1_2_0_3 = a.outs := by
    funext j; idx_vars j; pointwise
    exact H.outs _ _ _ _ j2.isLt
  unfold out_main_v10 Args.result
  rw [hs]
  exact congrArg (fun x : FVec Ideal S2x16x2048x128 .f32 => concatenate S8912896 0
    [⟨S8388608, shapeCast S8388608 x shapeCasts_S2x16x2048x128_S8388608⟩,
      ⟨S524288, shapeCast S524288 a.finals shapeCasts_S2x16x128x128_S524288⟩]
    concatenates_S8388608_S524288_S8912896_d0) ho

variable (m : (ℓ : Loc nD τ sig) → Buf (Elt Ideal) ℓ) (c : Dev nD)

/-- The reference's six arguments. -/
def refArgs : Args where
  q := m ((c.tc : Thread nD τ).loc main_arg0)
  k := m ((c.tc : Thread nD τ).loc main_arg1)
  v := m ((c.tc : Thread nD τ).loc main_arg2)
  g := m ((c.tc : Thread nD τ).loc main_arg3)
  b := m ((c.tc : Thread nD τ).loc main_arg4)
  s := m ((c.tc : Thread nD τ).loc main_arg5)

/-- The loop begins with the queries, time leading. -/
theorem enter_q : entryContents preI m c (Proc.devRef .tc main_v6_0)
    = transpose S2048x2x16x128 [2, 0, 1, 3] (refArgs m c).q transposes_S2x16x2048x128_S2048x2x16x128_2_0_1_3 := by
  simp only [entryContents, afterL_cons, afterL_nil]
  after_reads_simp
  rfl

/-- The loop begins with the keys, time leading. -/
theorem enter_k : entryContents preI m c (Proc.devRef .tc main_v6_1)
    = transpose S2048x2x16x128 [2, 0, 1, 3] (refArgs m c).k transposes_S2x16x2048x128_S2048x2x16x128_2_0_1_3 := by
  simp only [entryContents, afterL_cons, afterL_nil]
  after_reads_simp
  rfl

/-- The loop begins with the values, time leading. -/
theorem enter_v : entryContents preI m c (Proc.devRef .tc main_v6_2)
    = transpose S2048x2x16x128 [2, 0, 1, 3] (refArgs m c).v transposes_S2x16x2048x128_S2048x2x16x128_2_0_1_3 := by
  simp only [entryContents, afterL_cons, afterL_nil]
  after_reads_simp
  rfl

/-- The loop begins with the decays, time leading. -/
theorem enter_g : entryContents preI m c (Proc.devRef .tc main_v6_3)
    = transpose S2048x2x16 [2, 0, 1] (refArgs m c).g transposes_S2x16x2048_S2048x2x16_2_0_1 := by
  simp only [entryContents, afterL_cons, afterL_nil]
  after_reads_simp
  rfl

/-- The loop begins with the write strengths, time leading. -/
theorem enter_b : entryContents preI m c (Proc.devRef .tc main_v6_4)
    = transpose S2048x2x16 [2, 0, 1] (refArgs m c).b transposes_S2x16x2048_S2048x2x16_2_0_1 := by
  simp only [entryContents, afterL_cons, afterL_nil]
  after_reads_simp
  rfl

/-- The loop begins with the initial states. -/
theorem enter_s : entryContents preI m c (Proc.devRef .tc main_v6_6) = (refArgs m c).s := by
  simp only [entryContents, afterL_cons, afterL_nil]
  after_reads_simp
  rfl

/-- Before the first step the loop carries the recurrence's start. -/
theorem enter (r : (refArgs m c).Real) : At (refArgs m c) 0 (entryContents preI m c) where
  q := enter_q m c
  k := enter_k m c
  v := enter_v m c
  g := enter_g m c
  b := enter_b m c
  count := ctr_entry m c
  state i h d e := (congrFun (enter_s m c) (ix4 i h d e)).trans (r.s _).symm
  outs t i h d ht := absurd ht (Nat.not_lt_zero _)

/-- A run of the reference leaves the recurrence's reads and final states in the result, and its arguments unchanged. -/
theorem reference_run (ρ : Dev nD → PrngReg) (r : ∀ c, (refArgs m c).Real) :
    θ_run (defs (F := Ideal)) (onTc (τ := τ) (main (F := Ideal))) ⟨m, fun _ => 0, ρ⟩ fun x => ∀ c : Dev nD,
      x.2.mem ((c.tc : Thread nD τ).loc main_v10) = (refArgs m c).result
        ∧ x.2.mem ((c.tc : Thread nD τ).loc main_arg0) = m ((c.tc : Thread nD τ).loc main_arg0)
        ∧ x.2.mem ((c.tc : Thread nD τ).loc main_arg1) = m ((c.tc : Thread nD τ).loc main_arg1)
        ∧ x.2.mem ((c.tc : Thread nD τ).loc main_arg2) = m ((c.tc : Thread nD τ).loc main_arg2)
        ∧ x.2.mem ((c.tc : Thread nD τ).loc main_arg3) = m ((c.tc : Thread nD τ).loc main_arg3)
        ∧ x.2.mem ((c.tc : Thread nD τ).loc main_arg4) = m ((c.tc : Thread nD τ).loc main_arg4)
        ∧ x.2.mem ((c.tc : Thread nD τ).loc main_arg5) = m ((c.tc : Thread nD τ).loc main_arg5) :=
  (θ_run defs _ _).mono
    (fun _ h c => ⟨(h c).1.trans (out_eq ((enter m c (r c)).iterate (r c) 2048 le_rfl)), (h c).2⟩)
    (Cert.ReferenceIdeal.Value.run (F := Ideal) m ρ)

end Cert.Delta

end
-- ==== Proof.Finite.lean ====
/- The precondition, read over the extended reals: every entry of every argument is a real number. -/
module

public import proofs.«01_k».proof.Proof.Heads
public import proofs.«01_k».proof.Proof.Gen.Pre_finite
public import Idealize.ShloMosaic.PureOps.Reduce

@[expose] public section

noncomputable section

namespace Cert.Delta

open Idealize.ShloMosaic

/-- The word of all ones comes of a conjunction only where both sides are ones. -/
theorem andi_ones {x y : BitVec 1} (h : IntOp.andi x y = 1#1) : x = 1#1 ∧ y = 1#1 := by
  revert x y; decide

/-- A conjunction over a list is one only where every term is. -/
theorem foldl_ones {ι : Type} (f : ι → BitVec 1) (l : List ι) (z : BitVec 1)
    (h : l.foldl (fun r i => IntOp.andi r (f i)) z = 1#1) : z = 1#1 ∧ ∀ i ∈ l, f i = 1#1 := by
  induction l generalizing z with
  | nil => exact ⟨h, fun _ hi => absurd hi List.not_mem_nil⟩
  | cons a l ih =>
    obtain ⟨h1, h2⟩ := ih _ h
    refine ⟨(andi_ones h1).1, fun i hi => ?_⟩
    rcases List.mem_cons.mp hi with rfl | hi
    · exact (andi_ones h1).2
    · exact h2 i hi

/-- An extended real whose absolute value lies below infinity is a real number. -/
theorem real_of_lt {x : EReal} (h : max x (-x) < ⊤) : ((EReal.toReal x : ℝ) : EReal) = x := by
  refine EReal.coe_toReal (fun e => ?_) (fun e => ?_)
  · rw [e] at h; exact absurd h (by simp)
  · rw [e] at h; exact absurd h (by simp)

/-- The bound that the precondition compares with is infinity. -/
theorem infinity : Scalar.ofBits (F := Ideal) .f32 0x7F800000#32 = (⊤ : EReal) := by
  show Ideal.ofBits .f32 0x7F800000#32 = ⊤
  simp [Ideal.ofBits, Ideal.ieee]

/-- One argument's test, that every entry's absolute value lies below infinity: where it holds, every entry is a real
    number. -/
theorem allReal_of_test {S : Shape} {ds : List (Fin S.rank)} (x : FVec Ideal S .f32)
    (hb : Cert.Pre_finite.S_.BroadcastsInDim S ![]) (hr : S.ReducesTo ds Cert.Pre_finite.S_) (hs)
    (h : Host.reduce IntOp.andi (cmpf .olt (Host.absf x)
      (broadcastInDim S ![] hb (constant (F := Ideal) Cert.Pre_finite.S_ .f32 0x7F800000#32)))
      (constantI Cert.Pre_finite.S_ 1 1#1) hr hs (Shape.Idx.first hs) = 1#1) : AllReal x := by
  intro j
  rw [Host.reduce_eq_foldl] at h
  have t := (foldl_ones _ _ _ h).2 j (List.mem_filter.mpr ⟨by simpa using S.rowMajor.symm.surjective j, decide_eq_true (funext fun b => Fin.elim0 b)⟩)
  refine real_of_lt ?_
  have t' : BitVec.ofBool (decide (max (x j) (-(x j)) < Scalar.ofBits (F := Ideal) .f32 0x7F800000#32)) = 1#1 := t
  rw [infinity] at t'
  by_contra hn
  rw [decide_eq_false hn] at t'
  exact absurd t' (by decide)

open Cert.Pre_finite in
/-- Where the precondition holds, every entry of every argument is a real number. -/
theorem real_of_finite [Facts] (a : Args)
    (h : fn (F := Ideal) a.q a.k a.v a.g a.b a.s = fun _ => 1#1) : a.Real := by
  have e := congrFun h (Shape.Idx.first Facts.h_S_)
  obtain ⟨e, hs⟩ := andi_ones e
  obtain ⟨e, hb⟩ := andi_ones e
  obtain ⟨e, hg⟩ := andi_ones e
  obtain ⟨e, hv⟩ := andi_ones e
  obtain ⟨hq, hk⟩ := andi_ones e
  exact ⟨allReal_of_test _ _ _ _ hq, allReal_of_test _ _ _ _ hk, allReal_of_test _ _ _ _ hv,
    allReal_of_test _ _ _ _ hg, allReal_of_test _ _ _ _ hb, allReal_of_test _ _ _ _ hs⟩

end Cert.Delta

end
-- ==== Proof.Equation.lean ====
/- The equation: the kernel and the reference, over the extended reals and from equal finite arguments, leave the same
   array. -/
module

public import proofs.«01_k».proof.Proof.Arrays
public import proofs.«01_k».proof.Proof.Reference
public import proofs.«01_k».proof.Proof.Finite
public import proofs.«01_k».proof.Defs

@[expose] public section

noncomputable section

namespace Cert.Delta

open Idealize.ShloMosaic

/-- From finite arguments that agree, the kernel and the reference leave equal results, their arguments unchanged: both
    leave what the recurrence reads at every time, and its last states. -/
theorem equal_results : Cert.algebraic_KernelIdeal_ReferenceIdeal_pre_finite
    (hKernelIdeal := Cert.KernelIdeal.Gen.facts) (hReferenceIdeal := Cert.ReferenceIdeal.Gen.facts)
    (hPre_finite := Cert.Pre_finite.Gen.facts) := by
  intro m g m' g' hp hargs
  have hr : ∀ c, (args m c).Real := fun c => real_of_finite (args m c) (hp c)
  have he : ∀ c, refArgs m' c = args m c := fun c => by
    obtain ⟨h0, h1, h2, h3, h4, h5⟩ := hargs c
    unfold refArgs args
    rw [h0, h1, h2, h3, h4, h5]
  refine ⟨fun c => (args m c).result, kernel_run m g hr, ?_⟩
  have := reference_run m' g' (fun c => (he c).symm ▸ hr c)
  simpa only [he] using this

end Cert.Delta

end
-- ==== Proof.lean ====
module

public import proofs.«01_k».proof.Proof.Equation
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import Idealize.ShloMosaic.Adequacy
public import Idealize.ShloMosaic.Lib.Quiescent
public import Idealize.ShloMosaic.Init

@[expose] public section

noncomputable section

namespace Cert.Proof

open Idealize.ShloMosaic Idealize.SL.Sem

/-- The kernel as it is run: every execution ends, the six arguments unchanged and every semaphore at zero. -/
theorem frame_kernel : Cert.quiescent_Kernel (hKernel := Cert.Kernel.Gen.facts) :=
  fun m ρ _ => Cert.Kernel.Gen.frame m ρ

/-- The kernel over the extended reals: every execution ends, the six arguments unchanged and every semaphore at
    zero. -/
theorem frame_ideal : Cert.quiescent_KernelIdeal (hKernelIdeal := Cert.KernelIdeal.Gen.facts) :=
  fun m ρ _ => Cert.KernelIdeal.Gen.frame m ρ

/-- The reference over the extended reals: every execution ends, the six arguments unchanged; it declares no
    semaphore. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The constant that fills the masked entries is named, and read as minus infinity over the extended reals. -/
theorem mask_named : Cert.preserves_Kernel_KernelIdeal :=
  IdealRules.named_const.statement Cert.KernelIdeal.κ "mask" .f32 0xF149F2CA#32 ⊥ rfl

/-- Everything claimed. -/
theorem claim : Cert.Claim :=
  ⟨Cert.Kernel.Gen.facts, Cert.KernelIdeal.Gen.facts, Cert.ReferenceIdeal.Gen.facts, Cert.Pre_finite.Gen.facts,
    frame_kernel, frame_ideal, fun m ρ _ => frame_ideal m ρ trivial, frame_reference,
    fun m ρ _ => frame_reference m ρ trivial, mask_named, Cert.Delta.equal_results⟩

end Cert.Proof

end
